-- ==== Defs.lean ====
def Pre_Kernel [hPre_one_expert_per_row_block : Cert.Pre_one_expert_per_row_block.Facts] (m : (ℓ : Loc Cert.Kernel.nD Cert.Kernel.τ Cert.Kernel.sig) → Buf (Elt Bits) ℓ) : Prop :=
  ∀ c : Dev Cert.Kernel.nD,
    (Cert.Pre_one_expert_per_row_block.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_one_expert_per_row_block : Cert.Pre_one_expert_per_row_block.Facts] (m : (ℓ : Loc Cert.KernelIdeal.nD Cert.KernelIdeal.τ Cert.KernelIdeal.sig) → Buf (Elt Ideal) ℓ) : Prop :=
  ∀ c : Dev Cert.KernelIdeal.nD,
    (Cert.Pre_one_expert_per_row_block.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_expert_per_row_block [hPre_one_expert_per_row_block : Cert.Pre_one_expert_per_row_block.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_expert_per_row_block.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_one_expert_per_row_block : Cert.Pre_one_expert_per_row_block.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_one_expert_per_row_block : Cert.Pre_one_expert_per_row_block.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_one_expert_per_row_block [hReferenceIdeal : Cert.ReferenceIdeal.Facts] [hPre_one_expert_per_row_block : Cert.Pre_one_expert_per_row_block.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_expert_per_row_block m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_one_expert_per_row_block : Cert.Pre_one_expert_per_row_block.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14_0) = v0 c
          ∧ r.2.mem ((c.tc : Thread Cert.ReferenceIdeal.nD Cert.ReferenceIdeal.τ).loc Cert.ReferenceIdeal.main_v14_1) = v1 c
          ∧ r.2.mem ((c.tc : Thread Cert.ReferenceIdeal.nD Cert.ReferenceIdeal.τ).loc Cert.ReferenceIdeal.main_v14_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_one_expert_per_row_block : Cert.Pre_one_expert_per_row_block.Facts),
    quiescent_Kernel (hKernel := hKernel) (hPre_one_expert_per_row_block := hPre_one_expert_per_row_block)
    ∧ quiescent_KernelIdeal (hKernelIdeal := hKernelIdeal) (hPre_one_expert_per_row_block := hPre_one_expert_per_row_block)
    ∧ quiescent_ReferenceIdeal (hReferenceIdeal := hReferenceIdeal)
    ∧ quiescent_ReferenceIdeal_pre_one_expert_per_row_block (hReferenceIdeal := hReferenceIdeal) (hPre_one_expert_per_row_block := hPre_one_expert_per_row_block)
    ∧ preserves_Kernel_KernelIdeal
    ∧ algebraic_KernelIdeal_ReferenceIdeal (hKernelIdeal := hKernelIdeal) (hReferenceIdeal := hReferenceIdeal) (hPre_one_expert_per_row_block := hPre_one_expert_per_row_block)
-- ==== Pre_one_expert_per_row_block.lean ====
abbrev S48128x768 : Shape := ⟨2, ![48128, 768]⟩
abbrev S48128x6 : Shape := ⟨2, ![48128, 6]⟩
abbrev S768x368640 : Shape := ⟨2, ![768, 368640]⟩
abbrev S6x2880 : Shape := ⟨2, ![6, 2880]⟩
abbrev S368640x768 : Shape := ⟨2, ![368640, 768]⟩
abbrev S2880x6 : Shape := ⟨2, ![2880, 6]⟩
abbrev S376x24 : Shape := ⟨2, ![376, 24]⟩
abbrev S376x1 : Shape := ⟨2, ![376, 1]⟩
abbrev S_ : Shape := ⟨0, ![]⟩

class Facts : Prop where
  slices_S376x24_S376x1_0_0 : S376x24.Slices ![0, 0] S376x1
  bcast_S_S376x1 : S_.BroadcastsInDim S376x1 (![] : Fin 0 → Fin S376x1.rank)
  bcast_S376x1_S376x24_0_1 : S376x1.BroadcastsInDim S376x24 (![0, 1] : Fin 2 → Fin S376x24.rank)

variable [Facts]

def fn {F : FTy → Type} [FloatOps F] (main_arg0 : FVec F S48128x768 .fp8e4m3) (main_arg1 : FVec F S48128x6 .f32) (main_arg2 : FVec F S768x368640 .fp8e4m3) (main_arg3 : FVec F S6x2880 .f32) (main_arg4 : FVec F S368640x768 .fp8e4m3) (main_arg5 : FVec F S2880x6 .f32) (main_arg6 : IVec S376x24 32) (main_arg7 : FVec F S48128x768 .fp8e5m2) (main_arg8 : FVec F S48128x6 .f32) : IVec S376x24 1 :=
  let main_v0 : IVec S376x1 32 := (extractStridedSlice S376x1 ![0, 0] · slices_S376x24_S376x1_0_0) main_arg6
  let main_v1 : IVec S376x24 32 := iotaInDim S376x24 32 1
  let main_c : IVec S_ 32 := constantI S_ 32 0#32
  let main_v2 : IVec S376x1 32 := broadcastInDim S376x1 ![] bcast_S_S376x1 main_c
  let main_v3 : IVec S376x1 1 := cmpi .sge main_v0 main_v2
  let main_c_0 : IVec S_ 32 := constantI S_ 32 2880#32
  let main_v4 : IVec S376x1 32 := broadcastInDim S376x1 ![] bcast_S_S376x1 main_c_0
  let main_v5 : IVec S376x1 1 := cmpi .slt main_v0 main_v4
  let main_v6 : IVec S376x1 1 := andi main_v3 main_v5
  let main_c_1 : IVec S_ 32 := constantI S_ 32 24#32
  let main_v7 : IVec S376x1 32 := broadcastInDim S376x1 ![] bcast_S_S376x1 main_c_1
  let main_v8 : IVec S376x1 32 := Host.remsi main_v0 main_v7
  let main_c_2 : IVec S_ 32 := constantI S_ 32 0#32
  let main_v9 : IVec S376x1 32 := broadcastInDim S376x1 ![] bcast_S_S376x1 main_c_2
  let main_v10 : IVec S376x1 1 := cmpi .eq main_v8 main_v9
  let main_v11 : IVec S376x1 1 := andi main_v6 main_v10
  let main_v12 : IVec S376x24 32 := broadcastInDim S376x24 ![0, 1] bcast_S376x1_S376x24_0_1 main_v0
  let main_v13 : IVec S376x24 32 := addi main_v12 main_v1
  let main_v14 : IVec S376x24 1 := cmpi .eq main_arg6 main_v13
  let main_v15 : IVec S376x24 1 := broadcastInDim S376x24 ![0, 1] bcast_S376x1_S376x24_0_1 main_v11
  let main_v16 : IVec S376x24 1 := andi main_v15 main_v14
  main_v16
-- ==== Kernel.lean ====
abbrev S48128x768 : Shape := ⟨2, ![48128, 768]⟩
abbrev S48128x6 : Shape := ⟨2, ![48128, 6]⟩
abbrev S768x368640 : Shape := ⟨2, ![768, 368640]⟩
abbrev S6x2880 : Shape := ⟨2, ![6, 2880]⟩
abbrev S368640x768 : Shape := ⟨2, ![368640, 768]⟩
abbrev S2880x6 : Shape := ⟨2, ![2880, 6]⟩
abbrev S376x24 : Shape := ⟨2, ![376, 24]⟩
abbrev S376x1 : Shape := ⟨2, ![376, 1]⟩
abbrev S376 : Shape := ⟨1, ![376]⟩
abbrev S_ : Shape := ⟨0, ![]⟩
abbrev S6x120x24 : Shape := ⟨3, ![6, 120, 24]⟩
abbrev S120x6x24 : Shape := ⟨3, ![120, 6, 24]⟩
abbrev S17280 : Shape := ⟨1, ![17280]⟩
abbrev S48128x3072 : Shape := ⟨2, ![48128, 3072]⟩
abbrev S48128x24 : Shape := ⟨2, ![48128, 24]⟩
abbrev S128x768 : Shape := ⟨2, ![128, 768]⟩
abbrev S128x6 : Shape := ⟨2, ![128, 6]⟩
abbrev S768x3072 : Shape := ⟨2, ![768, 3072]⟩
abbrev S1 : Shape := ⟨1, ![1]⟩
abbrev S3072x768 : Shape := ⟨2, ![3072, 768]⟩
abbrev S128x3072 : Shape := ⟨2, ![128, 3072]⟩
abbrev S128x24 : Shape := ⟨2, ![128, 24]⟩
abbrev S128x128 : Shape := ⟨2, ![128, 128]⟩
abbrev S128x1 : Shape := ⟨2, ![128, 1]⟩
abbrev S128x256 : Shape := ⟨2, ![128, 256]⟩
abbrev S768x256 : Shape := ⟨2, ![768, 256]⟩
abbrev S256x768 : Shape := ⟨2, ![256, 768]⟩
abbrev S128 : Shape := ⟨1, ![128]⟩

abbrev nBuf : Space → Nat
  | .hbm => 35
  | .vmem => 18
  | .smem => 3
  | _ => 0

abbrev bufTy : (tb : Table) → Fin (tcTables nBuf tb) → BufTy
  | .hbm, ⟨0, _⟩ => ⟨S48128x768, .fp8e4m3⟩
  | .hbm, ⟨1, _⟩ => ⟨S48128x6, .f32⟩
  | .hbm, ⟨2, _⟩ => ⟨S768x368640, .fp8e4m3⟩
  | .hbm, ⟨3, _⟩ => ⟨S6x2880, .f32⟩
  | .hbm, ⟨4, _⟩ => ⟨S368640x768, .fp8e4m3⟩
  | .hbm, ⟨5, _⟩ => ⟨S2880x6, .f32⟩
  | .hbm, ⟨6, _⟩ => ⟨S376x24, .i32⟩
  | .hbm, ⟨7, _⟩ => ⟨S48128x768, .fp8e5m2⟩
  | .hbm, ⟨8, _⟩ => ⟨S48128x6, .f32⟩
  | .hbm, ⟨9, _⟩ => ⟨S376x1, .i32⟩
  | .hbm, ⟨10, _⟩ => ⟨S376, .i32⟩
  | .hbm, ⟨11, _⟩ => ⟨S_, .i32⟩
  | .hbm, ⟨12, _⟩ => ⟨S_, .i32⟩
  | .hbm, ⟨13, _⟩ => ⟨S376, .i32⟩
  | .hbm, ⟨14, _⟩ => ⟨S376, .i32⟩
  | .hbm, ⟨15, _⟩ => ⟨S376, .i32⟩
  | .hbm, ⟨16, _⟩ => ⟨S_, .i32⟩
  | .hbm, ⟨17, _⟩ => ⟨S376, .i32⟩
  | .hbm, ⟨18, _⟩ => ⟨S376, .i1⟩
  | .hbm, ⟨19, _⟩ => ⟨S376, .i32⟩
  | .hbm, ⟨20, _⟩ => ⟨S376, .i32⟩
  | .hbm, ⟨21, _⟩ => ⟨S_, .i32⟩
  | .hbm, ⟨22, _⟩ => ⟨S376, .i32⟩
  | .hbm, ⟨23, _⟩ => ⟨S376, .i1⟩
  | .hbm, ⟨24, _⟩ => ⟨S376, .i1⟩
  | .hbm, ⟨25, _⟩ => ⟨S_, .i32⟩
  | .hbm, ⟨26, _⟩ => ⟨S376, .i32⟩
  | .hbm, ⟨27, _⟩ => ⟨S376, .i32⟩
  | .hbm, ⟨28, _⟩ => ⟨S6x120x24, .f32⟩
  | .hbm, ⟨29, _⟩ => ⟨S120x6x24, .f32⟩
  | .hbm, ⟨30, _⟩ => ⟨S17280, .f32⟩
  | .hbm, ⟨31, _⟩ => ⟨S17280, .f32⟩
  | .hbm, ⟨32, _⟩ => ⟨S48128x768, .bf16⟩
  | .hbm, ⟨33, _⟩ => ⟨S48128x3072, .fp8e5m2⟩
  | .hbm, ⟨34, _⟩ => ⟨S48128x24, .f32⟩
  | .local _ .vmem, ⟨0, _⟩ => ⟨S128x768, .fp8e4m3⟩
  | .local _ .vmem, ⟨1, _⟩ => ⟨S128x768, .fp8e4m3⟩
  | .local _ .vmem, ⟨2, _⟩ => ⟨S128x6, .f32⟩
  | .local _ .vmem, ⟨3, _⟩ => ⟨S128x6, .f32⟩
  | .local _ .vmem, ⟨4, _⟩ => ⟨S128x768, .fp8e5m2⟩
  | .local _ .vmem, ⟨5, _⟩ => ⟨S128x768, .fp8e5m2⟩
  | .local _ .vmem, ⟨6, _⟩ => ⟨S128x6, .f32⟩
  | .local _ .vmem, ⟨7, _⟩ => ⟨S128x6, .f32⟩
  | .local _ .vmem, ⟨8, _⟩ => ⟨S768x3072, .fp8e4m3⟩
  | .local _ .vmem, ⟨9, _⟩ => ⟨S768x3072, .fp8e4m3⟩
  | .local _ .vmem, ⟨10, _⟩ => ⟨S3072x768, .fp8e4m3⟩
  | .local _ .vmem, ⟨11, _⟩ => ⟨S3072x768, .fp8e4m3⟩
  | .local _ .vmem, ⟨12, _⟩ => ⟨S128x768, .bf16⟩
  | .local _ .vmem, ⟨13, _⟩ => ⟨S128x768, .bf16⟩
  | .local _ .vmem, ⟨14, _⟩ => ⟨S128x3072, .fp8e5m2⟩
  | .local _ .vmem, ⟨15, _⟩ => ⟨S128x3072, .fp8e5m2⟩
  | .local _ .vmem, ⟨16, _⟩ => ⟨S128x24, .f32⟩
  | .local _ .vmem, ⟨17, _⟩ => ⟨S128x24, .f32⟩
  | .local _ .smem, ⟨0, _⟩ => ⟨S376, .i32⟩
  | .local _ .smem, ⟨1, _⟩ => ⟨S17280, .f32⟩
  | .local _ .smem, ⟨2, _⟩ => ⟨S17280, .f32⟩
  | _, _ => ⟨S48128x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7_0 : Ref sig .tc := ⟨.hbm, 32, rfl⟩
abbrev main_v7_1 : Ref sig .tc := ⟨.hbm, 33, rfl⟩
abbrev main_v7_2 : Ref sig .tc := ⟨.hbm, 34, rfl⟩
abbrev main_v2 : Ref sig .tc := ⟨.smem, 0, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg0_0 : Ref sig .tc := ⟨.smem, 1, rfl⟩
abbrev cc0_stg1_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![376], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) (c0_i32 : BitVec 32) (c0_i32_10 : BitVec 32) : Fin 1 → Nat :=
  let c6_i32 : BitVec 32 := 6#32
  let v75 : BitVec 32 := Scalar.muli v1 c6_i32
  let c24_i32 : BitVec 32 := 24#32
  let v76 : BitVec 32 := Scalar.muli v75 c24_i32
  let v77 : BitVec 32 := Scalar.addi v76 c0_i32
  let v78 : BitVec 32 := Scalar.addi v77 c0_i32_10
  let v79 : Index := Scalar.indexCast v78
  ![v79.toNat]
def k0_off2_at (r : Fin 252) : BitVec 32 × BitVec 32 :=
  if r.val < 126 then
    if r.val < 63 then
      if r.val < 31 then
        if r.val < 15 then
          if r.val < 7 then
            if r.val < 3 then
              if r.val < 1 then
                (0#32, 0#32)
              else
                if r.val < 2 then
                  (0#32, 1#32)
                else
                  (24#32, 0#32)
            else
              if r.val < 5 then
                if r.val < 4 then
                  (24#32, 1#32)
                else
                  (48#32, 0#32)
              else
                if r.val < 6 then
                  (48#32, 1#32)
                else
                  (72#32, 0#32)
          else
            if r.val < 11 then
              if r.val < 9 then
                if r.val < 8 then
                  (72#32, 1#32)
                else
                  (96#32, 0#32)
              else
                if r.val < 10 then
                  (96#32, 1#32)
                else
                  (120#32, 0#32)
            else
              if r.val < 13 then
                if r.val < 12 then
                  (120#32, 1#32)
                else
                  (0#32, 2#32)
              else
                if r.val < 14 then
                  (0#32, 3#32)
                else
                  (0#32, 4#32)
        else
          if r.val < 23 then
            if r.val < 19 then
              if r.val < 17 then
                if r.val < 16 then
                  (0#32, 5#32)
                else
                  (6#32, 0#32)
              else
                if r.val < 18 then
                  (6#32, 1#32)
                else
                  (6#32, 2#32)
            else
              if r.val < 21 then
                if r.val < 20 then
                  (6#32, 3#32)
                else
                  (6#32, 4#32)
              else
                if r.val < 22 then
                  (6#32, 5#32)
                else
                  (24#32, 2#32)
          else
            if r.val < 27 then
              if r.val < 25 then
                if r.val < 24 then
                  (24#32, 3#32)
                else
                  (48#32, 2#32)
              else
                if r.val < 26 then
                  (48#32, 3#32)
                else
                  (72#32, 2#32)
            else
              if r.val < 29 then
                if r.val < 28 then
                  (72#32, 3#32)
                else
                  (96#32, 2#32)
              else
                if r.val < 30 then
                  (96#32, 3#32)
                else
                  (120#32, 2#32)
      else
        if r.val < 47 then
          if r.val < 39 then
            if r.val < 35 then
              if r.val < 33 then
                if r.val < 32 then
                  (120#32, 3#32)
                else
                  (12#32, 0#32)
              else
                if r.val < 34 then
                  (12#32, 1#32)
                else
                  (12#32, 2#32)
            else
              if r.val < 37 then
                if r.val < 36 then
                  (12#32, 3#32)
                else
                  (12#32, 4#32)
              else
                if r.val < 38 then
                  (12#32, 5#32)
                else
                  (18#32, 0#32)
          else
            if r.val < 43 then
              if r.val < 41 then
                if r.val < 40 then
                  (18#32, 1#32)
                else
                  (18#32, 2#32)
              else
                if r.val < 42 then
                  (18#32, 3#32)
                else
                  (18#32, 4#32)
            else
              if r.val < 45 then
                if r.val < 44 then
                  (18#32, 5#32)
                else
                  (24#32, 4#32)
              else
                if r.val < 46 then
                  (24#32, 5#32)
                else
                  (48#32, 4#32)
        else
          if r.val < 55 then
            if r.val < 51 then
              if r.val < 49 then
                if r.val < 48 then
                  (48#32, 5#32)
                else
                  (72#32, 4#32)
              else
                if r.val < 50 then
                  (72#32, 5#32)
                else
                  (96#32, 4#32)
            else
              if r.val < 53 then
                if r.val < 52 then
                  (96#32, 5#32)
                else
                  (120#32, 4#32)
              else
                if r.val < 54 then
                  (120#32, 5#32)
                else
                  (30#32, 0#32)
          else
            if r.val < 59 then
              if r.val < 57 then
                if r.val < 56 then
                  (30#32, 1#32)
                else
                  (30#32, 2#32)
              else
                if r.val < 58 then
                  (30#32, 3#32)
                else
                  (30#32, 4#32)
            else
              if r.val < 61 then
                if r.val < 60 then
                  (30#32, 5#32)
                else
                  (0#32, 6#32)
              else
                if r.val < 62 then
                  (0#32, 7#32)
                else
                  (24#32, 6#32)
    else
      if r.val < 94 then
        if r.val < 78 then
          if r.val < 70 then
            if r.val < 66 then
              if r.val < 64 then
                (24#32, 7#32)
              else
                if r.val < 65 then
                  (48#32, 6#32)
                else
                  (48#32, 7#32)
            else
              if r.val < 68 then
                if r.val < 67 then
                  (72#32, 6#32)
                else
                  (72#32, 7#32)
              else
                if r.val < 69 then
                  (96#32, 6#32)
                else
                  (96#32, 7#32)
          else
            if r.val < 74 then
              if r.val < 72 then
                if r.val < 71 then
                  (120#32, 6#32)
                else
                  (120#32, 7#32)
              else
                if r.val < 73 then
                  (36#32, 0#32)
                else
                  (36#32, 1#32)
            else
              if r.val < 76 then
                if r.val < 75 then
                  (36#32, 2#32)
                else
                  (36#32, 3#32)
              else
                if r.val < 77 then
                  (36#32, 4#32)
                else
                  (36#32, 5#32)
        else
          if r.val < 86 then
            if r.val < 82 then
              if r.val < 80 then
                if r.val < 79 then
                  (42#32, 0#32)
                else
                  (42#32, 1#32)
              else
                if r.val < 81 then
                  (42#32, 2#32)
                else
                  (42#32, 3#32)
            else
              if r.val < 84 then
                if r.val < 83 then
                  (42#32, 4#32)
                else
                  (42#32, 5#32)
              else
                if r.val < 85 then
                  (0#32, 8#32)
                else
                  (0#32, 9#32)
          else
            if r.val < 90 then
              if r.val < 88 then
                if r.val < 87 then
                  (24#32, 8#32)
                else
                  (24#32, 9#32)
              else
                if r.val < 89 then
                  (48#32, 8#32)
                else
                  (48#32, 9#32)
            else
              if r.val < 92 then
                if r.val < 91 then
                  (72#32, 8#32)
                else
                  (72#32, 9#32)
              else
                if r.val < 93 then
                  (96#32, 8#32)
                else
                  (96#32, 9#32)
      else
        if r.val < 110 then
          if r.val < 102 then
            if r.val < 98 then
              if r.val < 96 then
                if r.val < 95 then
                  (120#32, 8#32)
                else
                  (120#32, 9#32)
              else
                if r.val < 97 then
                  (54#32, 0#32)
                else
                  (54#32, 1#32)
            else
              if r.val < 100 then
                if r.val < 99 then
                  (54#32, 2#32)
                else
                  (54#32, 3#32)
              else
                if r.val < 101 then
                  (54#32, 4#32)
                else
                  (54#32, 5#32)
          else
            if r.val < 106 then
              if r.val < 104 then
                if r.val < 103 then
                  (0#32, 10#32)
                else
                  (0#32, 11#32)
              else
                if r.val < 105 then
                  (24#32, 10#32)
                else
                  (24#32, 11#32)
            else
              if r.val < 108 then
                if r.val < 107 then
                  (48#32, 10#32)
                else
                  (48#32, 11#32)
              else
                if r.val < 109 then
                  (72#32, 10#32)
                else
                  (72#32, 11#32)
        else
          if r.val < 118 then
            if r.val < 114 then
              if r.val < 112 then
                if r.val < 111 then
                  (96#32, 10#32)
                else
                  (96#32, 11#32)
              else
                if r.val < 113 then
                  (120#32, 10#32)
                else
                  (120#32, 11#32)
            else
              if r.val < 116 then
                if r.val < 115 then
                  (60#32, 0#32)
                else
                  (60#32, 1#32)
              else
                if r.val < 117 then
                  (60#32, 2#32)
                else
                  (60#32, 3#32)
          else
            if r.val < 122 then
              if r.val < 120 then
                if r.val < 119 then
                  (60#32, 4#32)
                else
                  (60#32, 5#32)
              else
                if r.val < 121 then
                  (66#32, 0#32)
                else
                  (66#32, 1#32)
            else
              if r.val < 124 then
                if r.val < 123 then
                  (66#32, 2#32)
                else
                  (66#32, 3#32)
              else
                if r.val < 125 then
                  (66#32, 4#32)
                else
                  (66#32, 5#32)
  else
    if r.val < 189 then
      if r.val < 157 then
        if r.val < 141 then
          if r.val < 133 then
            if r.val < 129 then
              if r.val < 127 then
                (0#32, 12#32)
              else
                if r.val < 128 then
                  (0#32, 13#32)
                else
                  (24#32, 12#32)
            else
              if r.val < 131 then
                if r.val < 130 then
                  (24#32, 13#32)
                else
                  (48#32, 12#32)
              else
                if r.val < 132 then
                  (48#32, 13#32)
                else
                  (72#32, 12#32)
          else
            if r.val < 137 then
              if r.val < 135 then
                if r.val < 134 then
                  (72#32, 13#32)
                else
                  (96#32, 12#32)
              else
                if r.val < 136 then
                  (96#32, 13#32)
                else
                  (120#32, 12#32)
            else
              if r.val < 139 then
                if r.val < 138 then
                  (120#32, 13#32)
                else
                  (78#32, 0#32)
              else
                if r.val < 140 then
                  (78#32, 1#32)
                else
                  (78#32, 2#32)
        else
          if r.val < 149 then
            if r.val < 145 then
              if r.val < 143 then
                if r.val < 142 then
                  (78#32, 3#32)
                else
                  (78#32, 4#32)
              else
                if r.val < 144 then
                  (78#32, 5#32)
                else
                  (0#32, 14#32)
            else
              if r.val < 147 then
                if r.val < 146 then
                  (0#32, 15#32)
                else
                  (24#32, 14#32)
              else
                if r.val < 148 then
                  (24#32, 15#32)
                else
                  (48#32, 14#32)
          else
            if r.val < 153 then
              if r.val < 151 then
                if r.val < 150 then
                  (48#32, 15#32)
                else
                  (72#32, 14#32)
              else
                if r.val < 152 then
                  (72#32, 15#32)
                else
                  (96#32, 14#32)
            else
              if r.val < 155 then
                if r.val < 154 then
                  (96#32, 15#32)
                else
                  (120#32, 14#32)
              else
                if r.val < 156 then
                  (120#32, 15#32)
                else
                  (84#32, 0#32)
      else
        if r.val < 173 then
          if r.val < 165 then
            if r.val < 161 then
              if r.val < 159 then
                if r.val < 158 then
                  (84#32, 1#32)
                else
                  (84#32, 2#32)
              else
                if r.val < 160 then
                  (84#32, 3#32)
                else
                  (84#32, 4#32)
            else
              if r.val < 163 then
                if r.val < 162 then
                  (84#32, 5#32)
                else
                  (90#32, 0#32)
              else
                if r.val < 164 then
                  (90#32, 1#32)
                else
                  (90#32, 2#32)
          else
            if r.val < 169 then
              if r.val < 167 then
                if r.val < 166 then
                  (90#32, 3#32)
                else
                  (90#32, 4#32)
              else
                if r.val < 168 then
                  (90#32, 5#32)
                else
                  (0#32, 16#32)
            else
              if r.val < 171 then
                if r.val < 170 then
                  (0#32, 17#32)
                else
                  (24#32, 16#32)
              else
                if r.val < 172 then
                  (24#32, 17#32)
                else
                  (48#32, 16#32)
        else
          if r.val < 181 then
            if r.val < 177 then
              if r.val < 175 then
                if r.val < 174 then
                  (48#32, 17#32)
                else
                  (72#32, 16#32)
              else
                if r.val < 176 then
                  (72#32, 17#32)
                else
                  (96#32, 16#32)
            else
              if r.val < 179 then
                if r.val < 178 then
                  (96#32, 17#32)
                else
                  (120#32, 16#32)
              else
                if r.val < 180 then
                  (120#32, 17#32)
                else
                  (102#32, 0#32)
          else
            if r.val < 185 then
              if r.val < 183 then
                if r.val < 182 then
                  (102#32, 1#32)
                else
                  (102#32, 2#32)
              else
                if r.val < 184 then
                  (102#32, 3#32)
                else
                  (102#32, 4#32)
            else
              if r.val < 187 then
                if r.val < 186 then
                  (102#32, 5#32)
                else
                  (0#32, 18#32)
              else
                if r.val < 188 then
                  (0#32, 19#32)
                else
                  (24#32, 18#32)
    else
      if r.val < 220 then
        if r.val < 204 then
          if r.val < 196 then
            if r.val < 192 then
              if r.val < 190 then
                (24#32, 19#32)
              else
                if r.val < 191 then
                  (48#32, 18#32)
                else
                  (48#32, 19#32)
            else
              if r.val < 194 then
                if r.val < 193 then
                  (72#32, 18#32)
                else
                  (72#32, 19#32)
              else
                if r.val < 195 then
                  (96#32, 18#32)
                else
                  (96#32, 19#32)
          else
            if r.val < 200 then
              if r.val < 198 then
                if r.val < 197 then
                  (120#32, 18#32)
                else
                  (120#32, 19#32)
              else
                if r.val < 199 then
                  (108#32, 0#32)
                else
                  (108#32, 1#32)
            else
              if r.val < 202 then
                if r.val < 201 then
                  (108#32, 2#32)
                else
                  (108#32, 3#32)
              else
                if r.val < 203 then
                  (108#32, 4#32)
                else
                  (108#32, 5#32)
        else
          if r.val < 212 then
            if r.val < 208 then
              if r.val < 206 then
                if r.val < 205 then
                  (114#32, 0#32)
                else
                  (114#32, 1#32)
              else
                if r.val < 207 then
                  (114#32, 2#32)
                else
                  (114#32, 3#32)
            else
              if r.val < 210 then
                if r.val < 209 then
                  (114#32, 4#32)
                else
                  (114#32, 5#32)
              else
                if r.val < 211 then
                  (0#32, 20#32)
                else
                  (0#32, 21#32)
          else
            if r.val < 216 then
              if r.val < 214 then
                if r.val < 213 then
                  (24#32, 20#32)
                else
                  (24#32, 21#32)
              else
                if r.val < 215 then
                  (48#32, 20#32)
                else
                  (48#32, 21#32)
            else
              if r.val < 218 then
                if r.val < 217 then
                  (72#32, 20#32)
                else
                  (72#32, 21#32)
              else
                if r.val < 219 then
                  (96#32, 20#32)
                else
                  (96#32, 21#32)
      else
        if r.val < 236 then
          if r.val < 228 then
            if r.val < 224 then
              if r.val < 222 then
                if r.val < 221 then
                  (120#32, 20#32)
                else
                  (120#32, 21#32)
              else
                if r.val < 223 then
                  (126#32, 0#32)
                else
                  (126#32, 1#32)
            else
              if r.val < 226 then
                if r.val < 225 then
                  (126#32, 2#32)
                else
                  (126#32, 3#32)
              else
                if r.val < 227 then
                  (126#32, 4#32)
                else
                  (126#32, 5#32)
          else
            if r.val < 232 then
              if r.val < 230 then
                if r.val < 229 then
                  (0#32, 22#32)
                else
                  (0#32, 23#32)
              else
                if r.val < 231 then
                  (24#32, 22#32)
                else
                  (24#32, 23#32)
            else
              if r.val < 234 then
                if r.val < 233 then
                  (48#32, 22#32)
                else
                  (48#32, 23#32)
              else
                if r.val < 235 then
                  (72#32, 22#32)
                else
                  (72#32, 23#32)
        else
          if r.val < 244 then
            if r.val < 240 then
              if r.val < 238 then
                if r.val < 237 then
                  (96#32, 22#32)
                else
                  (96#32, 23#32)
              else
                if r.val < 239 then
                  (120#32, 22#32)
                else
                  (120#32, 23#32)
            else
              if r.val < 242 then
                if r.val < 241 then
                  (132#32, 0#32)
                else
                  (132#32, 1#32)
              else
                if r.val < 243 then
                  (132#32, 2#32)
                else
                  (132#32, 3#32)
          else
            if r.val < 248 then
              if r.val < 246 then
                if r.val < 245 then
                  (132#32, 4#32)
                else
                  (132#32, 5#32)
              else
                if r.val < 247 then
                  (138#32, 0#32)
                else
                  (138#32, 1#32)
            else
              if r.val < 250 then
                if r.val < 249 then
                  (138#32, 2#32)
                else
                  (138#32, 3#32)
              else
                if r.val < 251 then
                  (138#32, 4#32)
                else
                  (138#32, 5#32)

def k0_chk1 (v1 : BitVec 32) : Prop :=
  (∀ (r : Fin 252), ∀ a, (k0_off2 v1 (k0_off2_at r).1 (k0_off2_at r).2) a + S1.size a ≤ S17280.size a)
theorem k0_off2_inb : ∀ (v1 : BitVec 32) (k0_hw1 : k0_chk1 v1), ∀ (r : Fin 252), ∀ a, (k0_off2 v1 (k0_off2_at r).1 (k0_off2_at r).2) a + S1.size a ≤ S17280.size a := fun v1 k0_hw1 r => k0_hw1 r

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (k0_off1_inb : ∀ i : grid0.Coords, ∀ a, (k0_off1 i) a + S1.size a ≤ S376.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S376) ![v0.toNat] S1.size (k0_off1_inb i)) numel1_S1
  let c0_i32 : BitVec 32 := 0#32
  let c0_i32_0 : BitVec 32 := 0#32
  ![c0_i32.toNat, v1.toNat]

def cc0_transform_7 (k0_off1_inb : ∀ i : grid0.Coords, ∀ a, (k0_off1 i) a + S1.size a ≤ S376.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S376) ![v0.toNat] S1.size (k0_off1_inb i)) numel1_S1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S17280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S17280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x6 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x3072 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3072x768 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x3072 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x24 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S48128x768 : Shape := ⟨2, ![48128, 768]⟩
abbrev S48128x6 : Shape := ⟨2, ![48128, 6]⟩
abbrev S768x368640 : Shape := ⟨2, ![768, 368640]⟩
abbrev S6x2880 : Shape := ⟨2, ![6, 2880]⟩
abbrev S368640x768 : Shape := ⟨2, ![368640, 768]⟩
abbrev S2880x6 : Shape := ⟨2, ![2880, 6]⟩
abbrev S376x24 : Shape := ⟨2, ![376, 24]⟩
abbrev S768x2880x128 : Shape := ⟨3, ![768, 2880, 128]⟩
abbrev S376x24x1 : Shape := ⟨3, ![376, 24, 1]⟩
abbrev S768x376x24x128 : Shape := ⟨4, ![768, 376, 24, 128]⟩
abbrev S376x768x24x128 : Shape := ⟨4, ![376, 768, 24, 128]⟩
abbrev S376x768x3072 : Shape := ⟨3, ![376, 768, 3072]⟩
abbrev S2880x128x768 : Shape := ⟨3, ![2880, 128, 768]⟩
abbrev S376x24x128x768 : Shape := ⟨4, ![376, 24, 128, 768]⟩
abbrev S376x3072x768 : Shape := ⟨3, ![376, 3072, 768]⟩
abbrev S6x376x24 : Shape := ⟨3, ![6, 376, 24]⟩
abbrev S376x6x24 : Shape := ⟨3, ![376, 6, 24]⟩
abbrev S376x24x6 : Shape := ⟨3, ![376, 24, 6]⟩
abbrev S376x128x768 : Shape := ⟨3, ![376, 128, 768]⟩
abbrev S376x128x6 : Shape := ⟨3, ![376, 128, 6]⟩
abbrev S48128x3072 : Shape := ⟨2, ![48128, 3072]⟩
abbrev S48128x24 : Shape := ⟨2, ![48128, 24]⟩
abbrev S376x128x6x128 : Shape := ⟨4, ![376, 128, 6, 128]⟩
abbrev S376x128x6x1 : Shape := ⟨4, ![376, 128, 6, 1]⟩
abbrev S376x6x128x24x128 : Shape := ⟨5, ![376, 6, 128, 24, 128]⟩
abbrev S376x6x1x24x1 : Shape := ⟨5, ![376, 6, 1, 24, 1]⟩
abbrev S376x24x128x6x128 : Shape := ⟨5, ![376, 24, 128, 6, 128]⟩
abbrev S376x24x1x6x1 : Shape := ⟨5, ![376, 24, 1, 6, 1]⟩
abbrev S376x128x3072 : Shape := ⟨3, ![376, 128, 3072]⟩
abbrev S376x128x24x128 : Shape := ⟨4, ![376, 128, 24, 128]⟩
abbrev S376x128x24 : Shape := ⟨3, ![376, 128, 24]⟩
abbrev S376x128x24x1 : Shape := ⟨4, ![376, 128, 24, 1]⟩

abbrev nBuf : Space → Nat
  | .hbm => 30
  | .vmem => 11
  | .smem => 0
  | _ => 0

abbrev bufTy : (tb : Table) → Fin (tcTables nBuf tb) → BufTy
  | .hbm, ⟨0, _⟩ => ⟨S48128x768, .fp8e4m3⟩
  | .hbm, ⟨1, _⟩ => ⟨S48128x6, .f32⟩
  | .hbm, ⟨2, _⟩ => ⟨S768x368640, .fp8e4m3⟩
  | .hbm, ⟨3, _⟩ => ⟨S6x2880, .f32⟩
  | .hbm, ⟨4, _⟩ => ⟨S368640x768, .fp8e4m3⟩
  | .hbm, ⟨5, _⟩ => ⟨S2880x6, .f32⟩
  | .hbm, ⟨6, _⟩ => ⟨S376x24, .i32⟩
  | .hbm, ⟨7, _⟩ => ⟨S48128x768, .fp8e5m2⟩
  | .hbm, ⟨8, _⟩ => ⟨S48128x6, .f32⟩
  | .hbm, ⟨9, _⟩ => ⟨S768x2880x128, .fp8e4m3⟩
  | .hbm, ⟨10, _⟩ => ⟨S376x24x1, .i32⟩
  | .hbm, ⟨11, _⟩ => ⟨S768x376x24x128, .fp8e4m3⟩
  | .hbm, ⟨12, _⟩ => ⟨S376x768x24x128, .fp8e4m3⟩
  | .hbm, ⟨13, _⟩ => ⟨S376x768x3072, .fp8e4m3⟩
  | .hbm, ⟨14, _⟩ => ⟨S2880x128x768, .fp8e4m3⟩
  | .hbm, ⟨15, _⟩ => ⟨S376x24x1, .i32⟩
  | .hbm, ⟨16, _⟩ => ⟨S376x24x128x768, .fp8e4m3⟩
  | .hbm, ⟨17, _⟩ => ⟨S376x3072x768, .fp8e4m3⟩
  | .hbm, ⟨18, _⟩ => ⟨S376x24x1, .i32⟩
  | .hbm, ⟨19, _⟩ => ⟨S6x376x24, .f32⟩
  | .hbm, ⟨20, _⟩ => ⟨S376x6x24, .f32⟩
  | .hbm, ⟨21, _⟩ => ⟨S376x24x1, .i32⟩
  | .hbm, ⟨22, _⟩ => ⟨S376x24x6, .f32⟩
  | .hbm, ⟨23, _⟩ => ⟨S376x128x768, .fp8e4m3⟩
  | .hbm, ⟨24, _⟩ => ⟨S376x128x6, .f32⟩
  | .hbm, ⟨25, _⟩ => ⟨S376x128x768, .fp8e5m2⟩
  | .hbm, ⟨26, _⟩ => ⟨S376x128x6, .f32⟩
  | .hbm, ⟨27, _⟩ => ⟨S48128x768, .bf16⟩
  | .hbm, ⟨28, _⟩ => ⟨S48128x3072, .fp8e5m2⟩
  | .hbm, ⟨29, _⟩ => ⟨S48128x24, .f32⟩
  | .local _ .vmem, ⟨0, _⟩ => ⟨S376x128x768, .fp8e4m3⟩
  | .local _ .vmem, ⟨1, _⟩ => ⟨S376x128x6, .f32⟩
  | .local _ .vmem, ⟨2, _⟩ => ⟨S376x768x3072, .fp8e4m3⟩
  | .local _ .vmem, ⟨3, _⟩ => ⟨S376x6x24, .f32⟩
  | .local _ .vmem, ⟨4, _⟩ => ⟨S376x3072x768, .fp8e4m3⟩
  | .local _ .vmem, ⟨5, _⟩ => ⟨S376x24x6, .f32⟩
  | .local _ .vmem, ⟨6, _⟩ => ⟨S376x128x768, .fp8e5m2⟩
  | .local _ .vmem, ⟨7, _⟩ => ⟨S376x128x6, .f32⟩
  | .local _ .vmem, ⟨8, _⟩ => ⟨S48128x768, .bf16⟩
  | .local _ .vmem, ⟨9, _⟩ => ⟨S48128x3072, .fp8e5m2⟩
  | .local _ .vmem, ⟨10, _⟩ => ⟨S48128x24, .f32⟩
  | _, _ => ⟨S48128x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_call3_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S376x128x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S376x128x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S376x768x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S376x6x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S376x3072x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S376x24x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S376x128x768 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S376x128x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S48128x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S48128x3072 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S48128x24 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Pre.lean ====
/- What the precondition `one_expert_per_row_block` says of the column indices: row block `r` names the 24 column blocks of one
   expert, in order. -/
module

public import proofs.«01_k».proof.Pre_one_expert_per_row_block
public import proofs.«01_k».proof.Proof.Gen.Pre_one_expert_per_row_block
public import Idealize.ShloMosaic.Lib.Pointwise
public import Idealize.ShloMosaic.Lib.Affine
public import Idealize.ShloMosaic.Lib.Routing.BitFacts

@[expose] public section

set_option maxRecDepth 16384

namespace Cert.Moe

open Idealize.ShloMosaic Cert.Pre_one_expert_per_row_block

/-- The first column index `w` of every row block is the word of a number below 2880 that 24 divides, and the block's other column
    indices follow it. -/
def OneExpert (ci : S376x24.Idx → BitVec 32) : Prop :=
  ∀ r : Fin 376, (ci (ix2 r 0)).toNat < 2880 ∧ (ci (ix2 r 0)).toNat % 24 = 0
    ∧ ∀ l : Fin 24, ci (ix2 r l) = ci (ix2 r 0) + BitVec.ofNat 32 l.val

/-- A word the precondition's bounds and remainder hold of, read as a natural. -/
theorem word_facts (w : BitVec 32) (h0 : IntOp.cmpi .sge w 0#32 = 1#1) (h1 : IntOp.cmpi .slt w 2880#32 = 1#1)
    (h2 : IntOp.cmpi .eq (IntOp.remsi .host w 24#32) 0#32 = 1#1) : w.toNat < 2880 ∧ w.toNat % 24 = 0 := by
  have c (p : Bool) : (BitVec.ofBool p = 1#1) ↔ p = true := by cases p <;> decide
  have hw : w.toNat < 2880 := by
    simp only [IntOp.cmpi, c, BitVec.sle, BitVec.slt, decide_eq_true_eq, BitVec.toInt, BitVec.toNat_ofNat] at h0 h1
    omega
  refine ⟨hw, ?_⟩
  rw [IntOp.cmpi_eq] at h2
  have h3 := IntOp.toNat_remsi .host (x := w) (by omega) 24 (by omega) (by omega)
  rw [← h3]
  exact congrArg BitVec.toNat h2

/-- The precondition, decoded. -/
theorem oneExpert_of_pre {F : FTy → Type} [FloatOps F] (a0 : FVec F S48128x768 .fp8e4m3) (a1 : FVec F S48128x6 .f32)
    (a2 : FVec F S768x368640 .fp8e4m3) (a3 : FVec F S6x2880 .f32) (a4 : FVec F S368640x768 .fp8e4m3) (a5 : FVec F S2880x6 .f32)
    (a6 : IVec S376x24 32) (a7 : FVec F S48128x768 .fp8e5m2) (a8 : FVec F S48128x6 .f32)
    (h : fn a0 a1 a2 a3 a4 a5 a6 a7 a8 = fun _ => 1#1) : OneExpert a6 := by
  have andi_one (a b : BitVec 1) : IntOp.andi a b = 1#1 ↔ a = 1#1 ∧ b = 1#1 := by revert a b; decide
  intro r
  have e := fun l : Fin 24 => congrFun h (ix2 r l)
  pointwise [fn, andi_one] at e
  obtain ⟨⟨⟨h0, h1⟩, h2⟩, -⟩ := e 0
  obtain ⟨b, c⟩ := word_facts _ h0 h1 h2
  exact ⟨b, c, fun l => IntOp.cmpi_eq.mp (e l).2⟩

end Cert.Moe
-- ==== Proof.TblKernel.lean ====
/- The prefetched table: row block `r`'s entry is the number of its expert, so every block the table names lies in its array. -/
module

public import proofs.«01_k».proof.Proof.Gen.Kernel.Frame
public import proofs.«01_k».proof.Proof.Pre
public import Idealize.ShloMosaic.Lib.StableHlo.ReadAt
public import Idealize.ShloMosaic.Lib.Routing.Words

@[expose] public section

set_option maxRecDepth 65536

noncomputable section

namespace Cert.Kernel.Gen.Tbl

open Idealize.ShloMosaic Idealize.ShloMosaic.TcCoe Cert.Kernel Cert.Kernel.Gen Cert.Moe
open Idealize.ShloMosaic.Routing (remsi_word divsi_word)

variable {F : FTy → Type} [FloatOps F]
variable (m : (ℓ : Loc nD τ sig) → Buf (Elt F) ℓ)

/-- The column indices as launched. -/
abbrev ci : S376x24.Idx → BitVec 32 := m (((0 : Dev nD) : Thread nD τ).loc main_arg6)

/-- Row block `r`'s expert. -/
def expert (r : Fin 376) : Nat := (ci m (ix2 r 0)).toNat / 24

/-- `jnp.floor_divide` of a word 24 divides, as it prints. -/
theorem floor_word (w : BitVec 32) (h : w.toNat < 2880) (hm : w.toNat % 24 = 0) (b : BitVec 1) :
    Scalar.select (IntOp.andi b (IntOp.cmpi CmpIPredicate.ne (IntOp.remsi ArithUnit.host w 24#32) 0#32))
      (IntOp.subi (IntOp.divsi ArithUnit.host w 24#32) 1#32) (IntOp.divsi ArithUnit.host w 24#32) = BitVec.ofNat 32 (w.toNat / 24) := by
  have e : w = BitVec.ofNat 32 w.toNat := by simp
  have hr : IntOp.remsi ArithUnit.host w 24#32 = 0#32 := (IntOp.remsi_eq_zero_iff _ (by omega) 24 (by omega) (by omega)).mpr (by omega)
  have hd : IntOp.divsi ArithUnit.host w 24#32 = BitVec.ofNat 32 (w.toNat / 24) := by
    conv_lhs => rw [e]
    exact divsi_word .host (by omega) (by omega) (by omega)
  rw [hr, hd]
  have e0 : IntOp.cmpi .ne (0#32 : BitVec 32) 0#32 = 0#1 := by decide
  rw [e0]
  show Scalar.select (b &&& 0#1) _ _ = _
  rw [BitVec.and_zero]
  rfl

/-- The table's entry of row block `r` is its expert's number. -/
theorem tbl_at (h : OneExpert (ci m)) (r : Fin 376) : (tbl m 0 : S376.Idx → BitVec 32) (ix1 r) = BitVec.ofNat 32 (expert m r) := by
  show (V m 0 main_v2 : S376.Idx → BitVec 32) (ix1 r) = _
  unfold V
  unfold hostOps0 hostOps0_1 hostOps0_2
  after_reads_at
  exact floor_word _ (h r).1 (h r).2.1 _

/-- There are 120 experts. -/
theorem expert_lt (h : OneExpert (ci m)) (r : Fin 376) : expert m r < 120 := by
  have := (h r).1
  unfold expert
  omega

/-- The table's word a grid point reads. -/
theorem word_at (h : OneExpert (ci m)) (i : grid0.Coords) (x : S376.Idx) (hx : (x 0).val = (i 0).val) :
    (tbl m 0 : S376.Idx → BitVec 32) x = BitVec.ofNat 32 (expert m ⟨(i 0).val, (i 0).isLt⟩) := by
  rw [← tbl_at m h]
  congr 1
  funext a
  obtain rfl : a = 0 := Subsingleton.elim _ _
  exact Fin.ext hx

/-- Row block `i`'s offset into the table. -/
theorem off1 (i : grid0.Coords) : (Scalar.indexCast (BitVec.ofNat 32 (i 0).val)).toNat = (i 0).val := by
  have : (i 0).val < 376 := (i 0).isLt
  show (BitVec.ofNat _ _).toNat = _
  simp
  omega

/-- The first weight's window is at the expert's column block. -/
theorem t6_at (h : OneExpert (ci m)) (i : grid0.Coords) :
    cc0_transform_6 (F := F) k0_off1_inb numel1_S1 (tbl m) i = ![0, expert m ⟨(i 0).val, (i 0).isLt⟩] := by
  have hlt := expert_lt m h ⟨(i 0).val, (i 0).isLt⟩
  refine (congrArg (fun v : BitVec 32 => ![0, v.toNat]) (word_at m h i _ ?_)).trans ?_
  · exact (Nat.add_zero _).trans (off1 i)
  · simp only [BitVec.toNat_ofNat]
    rw [Nat.mod_eq_of_lt (by omega)]

/-- The second weight's window is at the expert's row block. -/
theorem t7_at (h : OneExpert (ci m)) (i : grid0.Coords) :
    cc0_transform_7 (F := F) k0_off1_inb numel1_S1 (tbl m) i = ![expert m ⟨(i 0).val, (i 0).isLt⟩, 0] := by
  have hlt := expert_lt m h ⟨(i 0).val, (i 0).isLt⟩
  refine (congrArg (fun v : BitVec 32 => ![v.toNat, 0]) (word_at m h i _ ?_)).trans ?_
  · exact (Nat.add_zero _).trans (off1 i)
  · simp only [BitVec.toNat_ofNat]
    rw [Nat.mod_eq_of_lt (by omega)]

/-- Every block the table names lies in its array, in whole words. -/
theorem ok_of_expert (h : OneExpert (ci m)) : Ok m := by
  refine ⟨fun i => ?_, fun i => ?_⟩
  · have hlt := expert_lt m h ⟨(i 0).val, (i 0).isLt⟩
    rw [t6_at m h i]
    refine ⟨fun a => ?_, .inr (.inr ⟨by decide, rfl, ?_, rfl⟩)⟩
    · match a with
      | 0 => show (0 + 1) * 768 ≤ 768; omega
      | 1 => show (expert m _ + 1) * 3072 ≤ 368640; omega
    · rfl
  · have hlt := expert_lt m h ⟨(i 0).val, (i 0).isLt⟩
    rw [t7_at m h i]
    refine ⟨fun a => ?_, .inr (.inl (.inr ⟨by decide, rfl, .inl ⟨?_, ?_⟩⟩))⟩
    · match a with
      | 0 => show (expert m _ + 1) * 3072 ≤ 368640; omega
      | 1 => show (0 + 1) * 768 ≤ 768; omega
    · exact Dvd.dvd.mul_left (by decide) _
    · show 4 ∣ 3072; decide

/-- A scale's place in its flat array. -/
theorem off2_eq (v a b : BitVec 32) (hv : v.toNat < 120) (hab : a.toNat + b.toNat < 144) :
    k0_off2 v a b 0 = v.toNat * 144 + a.toNat + b.toNat := by
  show (((v * 6#32) * 24#32 + a + b : BitVec 32)).toNat = _
  simp only [BitVec.toNat_add, BitVec.toNat_mul, BitVec.toNat_ofNat]
  omega

/-- The scales' offsets lie in their arrays. -/
theorem chk_of_lt (v : BitVec 32) (h : v.toNat < 120) : k0_chk1 v := by
  have key : ∀ r : Fin 252, (k0_off2_at r).1.toNat + (k0_off2_at r).2.toNat < 144 := by decide +kernel
  intro r a
  have := key r
  obtain rfl : a = 0 := Subsingleton.elim _ _
  rw [off2_eq v _ _ h this]
  show _ + 1 ≤ 17280
  omega

/-- Every scale the body reads by the expert's number lies inside its array. -/
theorem hyps_of_expert (h : OneExpert (ci m)) (hO : Ok m) : Hyps m hO := by
  refine Hyps.of fun c t => ?_
  have hlt := expert_lt m h ⟨(grid0.coords t 0).val, (grid0.coords t 0).isLt⟩
  refine chk_of_lt _ (lt_of_eq_of_lt (congrArg BitVec.toNat (word_at m h (grid0.coords t) _ ?_)) ?_)
  · exact (Nat.add_zero _).trans (off1 _)
  · simp only [BitVec.toNat_ofNat]
    rw [Nat.mod_eq_of_lt (by omega)]
    exact hlt

end Cert.Kernel.Gen.Tbl
-- ==== Proof.TblKernelIdeal.lean ====
/- The prefetched table: row block `r`'s entry is the number of its expert, so every block the table names lies in its array. -/
module

public import proofs.«01_k».proof.Proof.Gen.KernelIdeal.Frame
public import proofs.«01_k».proof.Proof.Pre
public import Idealize.ShloMosaic.Lib.StableHlo.ReadAt
public import Idealize.ShloMosaic.Lib.Routing.Words

@[expose] public section

set_option maxRecDepth 65536

noncomputable section

namespace Cert.KernelIdeal.Gen.Tbl

open Idealize.ShloMosaic Idealize.ShloMosaic.TcCoe Cert.KernelIdeal Cert.KernelIdeal.Gen Cert.Moe
open Idealize.ShloMosaic.Routing (remsi_word divsi_word)

variable {F : FTy → Type} [FloatOps F]
variable (m : (ℓ : Loc nD τ sig) → Buf (Elt F) ℓ)

/-- The column indices as launched. -/
abbrev ci : S376x24.Idx → BitVec 32 := m (((0 : Dev nD) : Thread nD τ).loc main_arg6)

/-- Row block `r`'s expert. -/
def expert (r : Fin 376) : Nat := (ci m (ix2 r 0)).toNat / 24

/-- `jnp.floor_divide` of a word 24 divides, as it prints. -/
theorem floor_word (w : BitVec 32) (h : w.toNat < 2880) (hm : w.toNat % 24 = 0) (b : BitVec 1) :
    Scalar.select (IntOp.andi b (IntOp.cmpi CmpIPredicate.ne (IntOp.remsi ArithUnit.host w 24#32) 0#32))
      (IntOp.subi (IntOp.divsi ArithUnit.host w 24#32) 1#32) (IntOp.divsi ArithUnit.host w 24#32) = BitVec.ofNat 32 (w.toNat / 24) := by
  have e : w = BitVec.ofNat 32 w.toNat := by simp
  have hr : IntOp.remsi ArithUnit.host w 24#32 = 0#32 := (IntOp.remsi_eq_zero_iff _ (by omega) 24 (by omega) (by omega)).mpr (by omega)
  have hd : IntOp.divsi ArithUnit.host w 24#32 = BitVec.ofNat 32 (w.toNat / 24) := by
    conv_lhs => rw [e]
    exact divsi_word .host (by omega) (by omega) (by omega)
  rw [hr, hd]
  have e0 : IntOp.cmpi .ne (0#32 : BitVec 32) 0#32 = 0#1 := by decide
  rw [e0]
  show Scalar.select (b &&& 0#1) _ _ = _
  rw [BitVec.and_zero]
  rfl

/-- The table's entry of row block `r` is its expert's number. -/
theorem tbl_at (h : OneExpert (ci m)) (r : Fin 376) : (tbl m 0 : S376.Idx → BitVec 32) (ix1 r) = BitVec.ofNat 32 (expert m r) := by
  show (V m 0 main_v2 : S376.Idx → BitVec 32) (ix1 r) = _
  unfold V
  unfold hostOps0 hostOps0_1 hostOps0_2
  after_reads_at
  exact floor_word _ (h r).1 (h r).2.1 _

/-- There are 120 experts. -/
theorem expert_lt (h : OneExpert (ci m)) (r : Fin 376) : expert m r < 120 := by
  have := (h r).1
  unfold expert
  omega

/-- The table's word a grid point reads. -/
theorem word_at (h : OneExpert (ci m)) (i : grid0.Coords) (x : S376.Idx) (hx : (x 0).val = (i 0).val) :
    (tbl m 0 : S376.Idx → BitVec 32) x = BitVec.ofNat 32 (expert m ⟨(i 0).val, (i 0).isLt⟩) := by
  rw [← tbl_at m h]
  congr 1
  funext a
  obtain rfl : a = 0 := Subsingleton.elim _ _
  exact Fin.ext hx

/-- Row block `i`'s offset into the table. -/
theorem off1 (i : grid0.Coords) : (Scalar.indexCast (BitVec.ofNat 32 (i 0).val)).toNat = (i 0).val := by
  have : (i 0).val < 376 := (i 0).isLt
  show (BitVec.ofNat _ _).toNat = _
  simp
  omega

/-- The first weight's window is at the expert's column block. -/
theorem t6_at (h : OneExpert (ci m)) (i : grid0.Coords) :
    cc0_transform_6 (F := F) k0_off1_inb numel1_S1 (tbl m) i = ![0, expert m ⟨(i 0).val, (i 0).isLt⟩] := by
  have hlt := expert_lt m h ⟨(i 0).val, (i 0).isLt⟩
  refine (congrArg (fun v : BitVec 32 => ![0, v.toNat]) (word_at m h i _ ?_)).trans ?_
  · exact (Nat.add_zero _).trans (off1 i)
  · simp only [BitVec.toNat_ofNat]
    rw [Nat.mod_eq_of_lt (by omega)]

/-- The second weight's window is at the expert's row block. -/
theorem t7_at (h : OneExpert (ci m)) (i : grid0.Coords) :
    cc0_transform_7 (F := F) k0_off1_inb numel1_S1 (tbl m) i = ![expert m ⟨(i 0).val, (i 0).isLt⟩, 0] := by
  have hlt := expert_lt m h ⟨(i 0).val, (i 0).isLt⟩
  refine (congrArg (fun v : BitVec 32 => ![v.toNat, 0]) (word_at m h i _ ?_)).trans ?_
  · exact (Nat.add_zero _).trans (off1 i)
  · simp only [BitVec.toNat_ofNat]
    rw [Nat.mod_eq_of_lt (by omega)]

/-- Every block the table names lies in its array, in whole words. -/
theorem ok_of_expert (h : OneExpert (ci m)) : Ok m := by
  refine ⟨fun i => ?_, fun i => ?_⟩
  · have hlt := expert_lt m h ⟨(i 0).val, (i 0).isLt⟩
    rw [t6_at m h i]
    refine ⟨fun a => ?_, .inr (.inr ⟨by decide, rfl, ?_, rfl⟩)⟩
    · match a with
      | 0 => show (0 + 1) * 768 ≤ 768; omega
      | 1 => show (expert m _ + 1) * 3072 ≤ 368640; omega
    · rfl
  · have hlt := expert_lt m h ⟨(i 0).val, (i 0).isLt⟩
    rw [t7_at m h i]
    refine ⟨fun a => ?_, .inr (.inl (.inr ⟨by decide, rfl, .inl ⟨?_, ?_⟩⟩))⟩
    · match a with
      | 0 => show (expert m _ + 1) * 3072 ≤ 368640; omega
      | 1 => show (0 + 1) * 768 ≤ 768; omega
    · exact Dvd.dvd.mul_left (by decide) _
    · show 4 ∣ 3072; decide

/-- A scale's place in its flat array. -/
theorem off2_eq (v a b : BitVec 32) (hv : v.toNat < 120) (hab : a.toNat + b.toNat < 144) :
    k0_off2 v a b 0 = v.toNat * 144 + a.toNat + b.toNat := by
  show (((v * 6#32) * 24#32 + a + b : BitVec 32)).toNat = _
  simp only [BitVec.toNat_add, BitVec.toNat_mul, BitVec.toNat_ofNat]
  omega

/-- The scales' offsets lie in their arrays. -/
theorem chk_of_lt (v : BitVec 32) (h : v.toNat < 120) : k0_chk1 v := by
  have key : ∀ r : Fin 252, (k0_off2_at r).1.toNat + (k0_off2_at r).2.toNat < 144 := by decide +kernel
  intro r a
  have := key r
  obtain rfl : a = 0 := Subsingleton.elim _ _
  rw [off2_eq v _ _ h this]
  show _ + 1 ≤ 17280
  omega

/-- Every scale the body reads by the expert's number lies inside its array. -/
theorem hyps_of_expert (h : OneExpert (ci m)) (hO : Ok m) : Hyps m hO := by
  refine Hyps.of fun c t => ?_
  have hlt := expert_lt m h ⟨(grid0.coords t 0).val, (grid0.coords t 0).isLt⟩
  refine chk_of_lt _ (lt_of_eq_of_lt (congrArg BitVec.toNat (word_at m h (grid0.coords t) _ ?_)) ?_)
  · exact (Nat.add_zero _).trans (off1 _)
  · simp only [BitVec.toNat_ofNat]
    rw [Nat.mod_eq_of_lt (by omega)]
    exact hlt

end Cert.KernelIdeal.Gen.Tbl
-- ==== Proof.KBody.lean ====
/- The kernel's body as functions of its blocks, chunk by chunk of the hidden dimension: the run's stored pieces are these
   functions, by unfolding. -/
module

public import proofs.«01_k».proof.Proof.Gen.KernelIdeal.Frame.RunA

@[expose] public section

set_option maxRecDepth 65536
set_option maxHeartbeats 0

noncomputable section

namespace Cert.KernelIdeal.Gen.Body

open Idealize.ShloMosaic Cert.KernelIdeal Cert.KernelIdeal.Gen

variable {F : FTy → Type} [FloatOps F]

/-- A dequantised tile: the codes times the tile's one scale, both in bf16. -/
def blk (q : FVec F S128x128 .fp8e4m3) (s : F .f32) : FVec F S128x128 .bf16 :=
  mulf (extf .bf16 q bitsLt_fp8e4m3_bf16) (broadcast S128x128 (Scalar.truncf .bf16 bitsLt_bf16_f32 s))

/-- 256 columns of the first weight, dequantised: six rows of two tiles. -/
def w1C (Q : Fin 6 → Fin 2 → FVec F S128x128 .fp8e4m3) (s : Fin 6 → Fin 2 → F .f32) : FVec F S768x256 .bf16 :=
  concatenate S768x256 0 [⟨S128x256, concatenate S128x256 1 [⟨S128x128, blk (Q 0 0) (s 0 0)⟩, ⟨S128x128, blk (Q 0 1) (s 0 1)⟩] concatenates_S128x128_S128x128_S128x256_d1⟩,
    ⟨S128x256, concatenate S128x256 1 [⟨S128x128, blk (Q 1 0) (s 1 0)⟩, ⟨S128x128, blk (Q 1 1) (s 1 1)⟩] concatenates_S128x128_S128x128_S128x256_d1⟩,
    ⟨S128x256, concatenate S128x256 1 [⟨S128x128, blk (Q 2 0) (s 2 0)⟩, ⟨S128x128, blk (Q 2 1) (s 2 1)⟩] concatenates_S128x128_S128x128_S128x256_d1⟩,
    ⟨S128x256, concatenate S128x256 1 [⟨S128x128, blk (Q 3 0) (s 3 0)⟩, ⟨S128x128, blk (Q 3 1) (s 3 1)⟩] concatenates_S128x128_S128x128_S128x256_d1⟩,
    ⟨S128x256, concatenate S128x256 1 [⟨S128x128, blk (Q 4 0) (s 4 0)⟩, ⟨S128x128, blk (Q 4 1) (s 4 1)⟩] concatenates_S128x128_S128x128_S128x256_d1⟩,
    ⟨S128x256, concatenate S128x256 1 [⟨S128x128, blk (Q 5 0) (s 5 0)⟩, ⟨S128x128, blk (Q 5 1) (s 5 1)⟩] concatenates_S128x128_S128x128_S128x256_d1⟩] concatenates_S128x256_S128x256_S128x256_S128x256_S128x256_S128x256_S768x256_d0

/-- 256 rows of the second weight, dequantised: two rows of six tiles. -/
def w2C (Q : Fin 2 → Fin 6 → FVec F S128x128 .fp8e4m3) (s : Fin 2 → Fin 6 → F .f32) : FVec F S256x768 .bf16 :=
  concatenate S256x768 0 [⟨S128x768, concatenate S128x768 1 [⟨S128x128, blk (Q 0 0) (s 0 0)⟩, ⟨S128x128, blk (Q 0 1) (s 0 1)⟩, ⟨S128x128, blk (Q 0 2) (s 0 2)⟩, ⟨S128x128, blk (Q 0 3) (s 0 3)⟩, ⟨S128x128, blk (Q 0 4) (s 0 4)⟩, ⟨S128x128, blk (Q 0 5) (s 0 5)⟩] concatenates_S128x128_S128x128_S128x128_S128x128_S128x128_S128x128_S128x768_d1⟩,
    ⟨S128x768, concatenate S128x768 1 [⟨S128x128, blk (Q 1 0) (s 1 0)⟩, ⟨S128x128, blk (Q 1 1) (s 1 1)⟩, ⟨S128x128, blk (Q 1 2) (s 1 2)⟩, ⟨S128x128, blk (Q 1 3) (s 1 3)⟩, ⟨S128x128, blk (Q 1 4) (s 1 4)⟩, ⟨S128x128, blk (Q 1 5) (s 1 5)⟩] concatenates_S128x128_S128x128_S128x128_S128x128_S128x128_S128x128_S128x768_d1⟩] concatenates_S128x768_S128x768_S256x768_d0

/-- The dequantised activations: 128 columns of codes per column of scales. -/
def xC (q : FVec F S128x768 .fp8e4m3) (sc : FVec F S128x6 .f32) : FVec F S128x768 .bf16 :=
  concatenate S128x768 1 [⟨S128x128, mulf (extf .bf16 (extractStridedSlice S128x128 ![0, 0] q slices_S128x768_o0_0_S128x128) bitsLt_fp8e4m3_bf16) (broadcastTo S128x128 (extractStridedSlice S128x1 ![0, 0] (truncf .bf16 sc bitsLt_bf16_f32) slices_S128x6_o0_0_S128x1) broadcasts_S128x1_S128x128)⟩,
    ⟨S128x128, mulf (extf .bf16 (extractStridedSlice S128x128 ![0, 128] q slices_S128x768_o0_128_S128x128) bitsLt_fp8e4m3_bf16) (broadcastTo S128x128 (extractStridedSlice S128x1 ![0, 1] (truncf .bf16 sc bitsLt_bf16_f32) slices_S128x6_o0_1_S128x1) broadcasts_S128x1_S128x128)⟩,
    ⟨S128x128, mulf (extf .bf16 (extractStridedSlice S128x128 ![0, 256] q slices_S128x768_o0_256_S128x128) bitsLt_fp8e4m3_bf16) (broadcastTo S128x128 (extractStridedSlice S128x1 ![0, 2] (truncf .bf16 sc bitsLt_bf16_f32) slices_S128x6_o0_2_S128x1) broadcasts_S128x1_S128x128)⟩,
    ⟨S128x128, mulf (extf .bf16 (extractStridedSlice S128x128 ![0, 384] q slices_S128x768_o0_384_S128x128) bitsLt_fp8e4m3_bf16) (broadcastTo S128x128 (extractStridedSlice S128x1 ![0, 3] (truncf .bf16 sc bitsLt_bf16_f32) slices_S128x6_o0_3_S128x1) broadcasts_S128x1_S128x128)⟩,
    ⟨S128x128, mulf (extf .bf16 (extractStridedSlice S128x128 ![0, 512] q slices_S128x768_o0_512_S128x128) bitsLt_fp8e4m3_bf16) (broadcastTo S128x128 (extractStridedSlice S128x1 ![0, 4] (truncf .bf16 sc bitsLt_bf16_f32) slices_S128x6_o0_4_S128x1) broadcasts_S128x1_S128x128)⟩,
    ⟨S128x128, mulf (extf .bf16 (extractStridedSlice S128x128 ![0, 640] q slices_S128x768_o0_640_S128x128) bitsLt_fp8e4m3_bf16) (broadcastTo S128x128 (extractStridedSlice S128x1 ![0, 5] (truncf .bf16 sc bitsLt_bf16_f32) slices_S128x6_o0_5_S128x1) broadcasts_S128x1_S128x128)⟩] concatenates_S128x128_S128x128_S128x128_S128x128_S128x128_S128x128_S128x768_d1

/-- The dequantised incoming gradient. -/
def dyC (q : FVec F S128x768 .fp8e5m2) (sc : FVec F S128x6 .f32) : FVec F S128x768 .bf16 :=
  concatenate S128x768 1 [⟨S128x128, mulf (extf .bf16 (extractStridedSlice S128x128 ![0, 0] q slices_S128x768_o0_0_S128x128) bitsLt_fp8e5m2_bf16) (broadcastTo S128x128 (extractStridedSlice S128x1 ![0, 0] (truncf .bf16 sc bitsLt_bf16_f32) slices_S128x6_o0_0_S128x1) broadcasts_S128x1_S128x128)⟩,
    ⟨S128x128, mulf (extf .bf16 (extractStridedSlice S128x128 ![0, 128] q slices_S128x768_o0_128_S128x128) bitsLt_fp8e5m2_bf16) (broadcastTo S128x128 (extractStridedSlice S128x1 ![0, 1] (truncf .bf16 sc bitsLt_bf16_f32) slices_S128x6_o0_1_S128x1) broadcasts_S128x1_S128x128)⟩,
    ⟨S128x128, mulf (extf .bf16 (extractStridedSlice S128x128 ![0, 256] q slices_S128x768_o0_256_S128x128) bitsLt_fp8e5m2_bf16) (broadcastTo S128x128 (extractStridedSlice S128x1 ![0, 2] (truncf .bf16 sc bitsLt_bf16_f32) slices_S128x6_o0_2_S128x1) broadcasts_S128x1_S128x128)⟩,
    ⟨S128x128, mulf (extf .bf16 (extractStridedSlice S128x128 ![0, 384] q slices_S128x768_o0_384_S128x128) bitsLt_fp8e5m2_bf16) (broadcastTo S128x128 (extractStridedSlice S128x1 ![0, 3] (truncf .bf16 sc bitsLt_bf16_f32) slices_S128x6_o0_3_S128x1) broadcasts_S128x1_S128x128)⟩,
    ⟨S128x128, mulf (extf .bf16 (extractStridedSlice S128x128 ![0, 512] q slices_S128x768_o0_512_S128x128) bitsLt_fp8e5m2_bf16) (broadcastTo S128x128 (extractStridedSlice S128x1 ![0, 4] (truncf .bf16 sc bitsLt_bf16_f32) slices_S128x6_o0_4_S128x1) broadcasts_S128x1_S128x128)⟩,
    ⟨S128x128, mulf (extf .bf16 (extractStridedSlice S128x128 ![0, 640] q slices_S128x768_o0_640_S128x128) bitsLt_fp8e5m2_bf16) (broadcastTo S128x128 (extractStridedSlice S128x1 ![0, 5] (truncf .bf16 sc bitsLt_bf16_f32) slices_S128x6_o0_5_S128x1) broadcasts_S128x1_S128x128)⟩] concatenates_S128x128_S128x128_S128x128_S128x128_S128x128_S128x128_S128x768_d1

/-- The pre-activation of one chunk. -/
def aC (X : FVec F S128x768 .bf16) (w1 : FVec F S768x256 .bf16) : FVec F S128x256 .f32 :=
  matmul dot_S128x768_S768x256_S128x256_1_0_0_1_n_n none X w1 (constant S128x256 .f32 0x00000000#32)

/-- The gradient of one chunk of the hidden activations. -/
def dhC (DY : FVec F S128x768 .bf16) (w2 : FVec F S256x768 .bf16) : FVec F S128x256 .f32 :=
  matmul dot_S128x768_S256x768_S128x256_1_1_0_0_n_n none DY w2 (constant S128x256 .f32 0x00000000#32)

/-- A constant over a chunk. -/
abbrev bc (w : BitVec 32) : FVec F S128x256 .f32 := broadcast S128x256 (Scalar.ofBits .f32 w)

/-- The gradient of one chunk of the pre-activations: the derivative of the tanh GELU times the gradient behind it. -/
def daC (a dh : FVec F S128x256 .f32) : FVec F S128x256 .f32 :=
  let t := tanh (mulf (bc 0x3F4C422A#32) (addf a (mulf (bc 0x3D372713#32) (mulf a (mulf a a)))))
  let p0 := mulf (bc 0x3F000000#32) (addf (bc 0x3F800000#32) t)
  let p1 := mulf (mulf (mulf (bc 0x3F000000#32) a) (subf (bc 0x3F800000#32) (mulf t t))) (bc 0x3F4C422A#32)
  let p2 := mulf (mulf (bc 0x3E095D4F#32) a) a
  mulf dh (addf p0 (mulf p1 (addf (bc 0x3F800000#32) p2)))

/-- One half of a chunk. -/
def vC (da : FVec F S128x256 .f32) (h : Fin 2) : FVec F S128x128 .f32 :=
  match h with
  | 0 => extractStridedSlice S128x128 ![0, 0] da slices_S128x256_o0_0_S128x128
  | 1 => extractStridedSlice S128x128 ![0, 128] da slices_S128x256_o0_128_S128x128

/-- The exponent of a tile's rows. -/
def eC (v : FVec F S128x128 .f32) : FVec F S128x1 .f32 :=
  let m : FVec F S128x1 .f32 := shapeCast S128x1 (multiReduction .maximumf [1] S128 (absf v) 0xFF800000#32 reduces_S128x128_S128 (.inl rfl) rfl) shapeCasts_S128_S128x1
  let f := mulf m (broadcast S128x1 (Scalar.ofBits .f32 0x37924925#32))
  select (cmpf .oeq f (broadcast S128x1 (Scalar.ofBits .f32 0x00000000#32))) (broadcast S128x1 (Scalar.ofBits .f32 0xBF800000#32))
    (floor (divf (log f) (log (broadcast S128x1 (Scalar.ofBits .f32 0x40000000#32)))))

/-- The scale of a tile's rows. -/
def sC (v : FVec F S128x128 .f32) : FVec F S128x1 .f32 :=
  exp2 (addf (eC v) (broadcast S128x1 (Scalar.ofBits .f32 0x3F800000#32)))

/-- The codes of a tile. -/
def codeC (v : FVec F S128x128 .f32) : FVec F S128x128 .fp8e5m2 :=
  truncf .fp8e5m2 (minimumf (broadcast S128x128 (Scalar.ofBits .f32 0x47600000#32)) (maximumf (broadcast S128x128 (Scalar.ofBits .f32 0xC7600000#32))
    (mulf v (broadcastTo S128x128 (exp2 (subf (broadcast S128x1 (Scalar.ofBits .f32 0xBF800000#32)) (eC v))) broadcasts_S128x1_S128x128)))) bitsLt_fp8e5m2_f32

/-- A tile decoded again. -/
def deqC (v : FVec F S128x128 .f32) : FVec F S128x128 .bf16 :=
  mulf (extf .bf16 (codeC v) bitsLt_fp8e5m2_bf16) (broadcastTo S128x128 (truncf .bf16 (sC v) bitsLt_bf16_f32) broadcasts_S128x1_S128x128)

/-- One chunk's addend of the input gradient, accumulated. -/
def dxC (acc : FVec F S128x768 .f32) (da : FVec F S128x256 .f32) (w1 : FVec F S768x256 .bf16) : FVec F S128x768 .f32 :=
  addf acc (matmul dot_S128x256_S768x256_S128x768_1_1_0_0_n_n none
    (concatenate S128x256 1 [⟨S128x128, deqC (vC da 0)⟩, ⟨S128x128, deqC (vC da 1)⟩] concatenates_S128x128_S128x128_S128x256_d1) w1
    (constant S128x768 .f32 0x00000000#32))

/-- Column `j` of the scales set. -/
def scC (acc : FVec F S128x24 .f32) (j : BitVec 32) (s : FVec F S128x1 .f32) : FVec F S128x24 .f32 :=
  select (cmpi .eq (iota Kind.tc S128x24 32 [1] iota_S128x24_d1_w32) (broadcast S128x24 j))
    (broadcastTo S128x24 (shapeCast S128x1 s shapeCasts_S128x1_S128x1) broadcasts_S128x1_S128x24) acc

section Whole

variable (q1 : Fin 6 → Fin 24 → FVec F S128x128 .fp8e4m3) (s1 : Fin 6 → Fin 24 → F .f32)
  (q2 : Fin 24 → Fin 6 → FVec F S128x128 .fp8e4m3) (s2 : Fin 24 → Fin 6 → F .f32)
  (X DY : FVec F S128x768 .bf16)

/-- Column block `2 n + h` of the hidden dimension. -/
def col (n : Fin 12) (h : Fin 2) : Fin 24 := ⟨2 * n.val + h.val, by omega⟩

/-- Chunk `n` of the first weight. -/
def w1N (n : Fin 12) : FVec F S768x256 .bf16 := w1C (fun k h => q1 k (col n h)) (fun k h => s1 k (col n h))

/-- Chunk `n` of the gradient of the pre-activations. -/
def daN (n : Fin 12) : FVec F S128x256 .f32 :=
  daC (aC X (w1N q1 s1 n)) (dhC DY (w2C (fun h k => q2 (col n h) k) (fun h k => s2 (col n h) k)))

/-- The input gradient after the first `n` chunks. -/
def dxN : Nat → FVec F S128x768 .f32
  | 0 => broadcast S128x768 (Scalar.ofBits .f32 0x00000000#32)
  | n + 1 => if h : n < 12 then dxC (dxN n) (daN q1 s1 q2 s2 X DY ⟨n, h⟩) (w1N q1 s1 ⟨n, h⟩) else dxN n

/-- The scales after the first `n` column blocks. -/
def scN : Nat → FVec F S128x24 .f32
  | 0 => broadcast S128x24 (Scalar.ofBits .f32 0x00000000#32)
  | n + 1 => if h : n < 24 then
      scC (scN n) (BitVec.ofNat 32 n) (sC (vC (daN q1 s1 q2 s2 X DY ⟨n / 2, by omega⟩) ⟨n % 2, by omega⟩)) else scN n

end Whole

section Run

/-- The expert's number. -/
def ex (i : grid0.Coords) (c : Dev nD) (xt0 : TbBuf0 (F := F) c tbM0_0) : BitVec 32 :=
  tbM0_0.view.readAt (Elt F) (Rect.unit (s := S376) (k0_off1 i) S1.size (k0_off1_inb i)).toLoadRect xt0 (Shape.Idx.first (numel1_S1.symm ▸ Nat.one_pos))

/-- The offsets at which the body reads the first weight's scales include that of each tile. -/
theorem at1 : ∀ (k : Fin 6) (j : Fin 24), ∃ r : Fin 252, k0_off2_at r = (BitVec.ofNat 32 (24 * k.val), BitVec.ofNat 32 j.val) := by
  decide +kernel

/-- The offsets at which the body reads the second weight's scales include that of each tile. -/
theorem at2 : ∀ (j : Fin 24) (k : Fin 6), ∃ r : Fin 252, k0_off2_at r = (BitVec.ofNat 32 (6 * j.val), BitVec.ofNat 32 k.val) := by
  decide +kernel

/-- The read of a scale of the first weight lies inside the array. -/
theorem inb1 {v : BitVec 32} (h : k0_chk1 v) (k : Fin 6) (j : Fin 24) :
    ∀ a, (k0_off2 v (BitVec.ofNat 32 (24 * k.val)) (BitVec.ofNat 32 j.val)) a + S1.size a ≤ S17280.size a := by
  obtain ⟨r, hr⟩ := at1 k j
  have := h r
  rwa [hr] at this

/-- The read of a scale of the second weight lies inside the array. -/
theorem inb2 {v : BitVec 32} (h : k0_chk1 v) (j : Fin 24) (k : Fin 6) :
    ∀ a, (k0_off2 v (BitVec.ofNat 32 (6 * j.val)) (BitVec.ofNat 32 k.val)) a + S1.size a ≤ S17280.size a := by
  obtain ⟨r, hr⟩ := at2 j k
  have := h r
  rwa [hr] at this

/-- Tile `(k, j)` of the first weight's block. -/
def q1 (arg8 : Memref sig .tc .vmem S768x3072 .fp8e4m3) (harg8 : arg8.IsWhole) (x6 : Vec F S768x3072 .fp8e4m3) (k : Fin 6) (j : Fin 24) : FVec F S128x128 .fp8e4m3 :=
  View.readAt (Elt F) arg8.view (Rect.unit (s := S768x3072) ![128 * k.val, 128 * j.val] S128x128.size (by
    intro a; fin_cases a <;> simp [Shape.size] <;> omega)).toLoadRect (harg8.unread x6)

/-- Tile `(j, k)` of the second weight's block. -/
def q2 (arg9 : Memref sig .tc .vmem S3072x768 .fp8e4m3) (harg9 : arg9.IsWhole) (x7 : Vec F S3072x768 .fp8e4m3) (j : Fin 24) (k : Fin 6) : FVec F S128x128 .fp8e4m3 :=
  View.readAt (Elt F) arg9.view (Rect.unit (s := S3072x768) ![128 * j.val, 128 * k.val] S128x128.size (by
    intro a; fin_cases a <;> simp [Shape.size] <;> omega)).toLoadRect (harg9.unread x7)

/-- The scale of tile `(k, j)` of expert `v`'s first weight. -/
def s1 (arg2 : Memref sig .tc .smem S17280 .f32) (harg2 : arg2.IsWhole) (x0 : Vec F S17280 .f32) (v : BitVec 32) (hv : k0_chk1 v) (k : Fin 6) (j : Fin 24) : F .f32 :=
  View.readAt (Elt F) arg2.view (Rect.unit (s := S17280) (k0_off2 v (BitVec.ofNat 32 (24 * k.val)) (BitVec.ofNat 32 j.val)) S1.size (inb1 hv k j)).toLoadRect
    (harg2.unread x0) (Shape.Idx.first (numel1_S1.symm ▸ Nat.one_pos))

/-- The scale of tile `(j, k)` of expert `v`'s second weight. -/
def s2 (arg3 : Memref sig .tc .smem S17280 .f32) (harg3 : arg3.IsWhole) (x1 : Vec F S17280 .f32) (v : BitVec 32) (hv : k0_chk1 v) (j : Fin 24) (k : Fin 6) : F .f32 :=
  View.readAt (Elt F) arg3.view (Rect.unit (s := S17280) (k0_off2 v (BitVec.ofNat 32 (6 * j.val)) (BitVec.ofNat 32 k.val)) S1.size (inb2 hv j k)).toLoadRect
    (harg3.unread x1) (Shape.Idx.first (numel1_S1.symm ▸ Nat.one_pos))

/-- The activations the body reads. -/
def xR (arg4 : Memref sig .tc .vmem S128x768 .fp8e4m3) (harg4 : arg4.IsWhole) (arg5 : Memref sig .tc .vmem S128x6 .f32) (harg5 : arg5.IsWhole)
    (x2 : Vec F S128x768 .fp8e4m3) (x3 : Vec F S128x6 .f32) : FVec F S128x768 .bf16 :=
  xC (View.readAt (Elt F) arg4.view (Rect.unit ![0, 0] S128x768.size inb_S128x768_S128x768_0_0).toLoadRect (harg4.unread x2))
    (View.readAt (Elt F) arg5.view (Rect.unit ![0, 0] S128x6.size inb_S128x6_S128x6_0_0).toLoadRect (harg5.unread x3))

/-- The incoming gradient the body reads. -/
def dyR (arg6 : Memref sig .tc .vmem S128x768 .fp8e5m2) (harg6 : arg6.IsWhole) (arg7 : Memref sig .tc .vmem S128x6 .f32) (harg7 : arg7.IsWhole)
    (x4 : Vec F S128x768 .fp8e5m2) (x5 : Vec F S128x6 .f32) : FVec F S128x768 .bf16 :=
  dyC (View.readAt (Elt F) arg6.view (Rect.unit ![0, 0] S128x768.size inb_S128x768_S128x768_0_0).toLoadRect (harg6.unread x4))
    (View.readAt (Elt F) arg7.view (Rect.unit ![0, 0] S128x6.size inb_S128x6_S128x6_0_0).toLoadRect (harg7.unread x5))

end Run

end Cert.KernelIdeal.Gen.Body
-- ==== Proof.Spec.lean ====
/- The mathematics of one row block: what both programs compute of the 128 rows, the codes and the scales they stage. -/
module

public import Idealize.ShloMosaic.Lib.Pointwise

@[expose] public section

noncomputable section

namespace Cert.Moe

open Idealize.ShloMosaic

/-- One row block's operands: activations, incoming gradient and the expert's two weights, each as codes and tile scales. -/
@[ext] structure In where
  xq : Fin 128 → Fin 768 → EReal
  xs : Fin 128 → Fin 6 → EReal
  w1q : Fin 768 → Fin 3072 → EReal
  w1s : Fin 6 → Fin 24 → EReal
  w2q : Fin 3072 → Fin 768 → EReal
  w2s : Fin 24 → Fin 6 → EReal
  dyq : Fin 128 → Fin 768 → EReal
  dys : Fin 128 → Fin 6 → EReal

/-- The tile a column of 768 lies in. -/
def t6 (c : Fin 768) : Fin 6 := ⟨c.val / 128, by omega⟩

/-- The tile a column of 3072 lies in. -/
def t24 (f : Fin 3072) : Fin 24 := ⟨f.val / 128, by omega⟩

/-- Column `l` of tile `j`. -/
def at24 (j : Fin 24) (l : Fin 128) : Fin 3072 := ⟨j.val * 128 + l.val, by omega⟩

/-- The gradient of the tanh GELU at `a`, times `dh`. -/
def gelu' (a dh : EReal) : EReal :=
  dh * (Ideal.ofBits FTy.f32 1056964608#32 *
          (1 + Ideal.tanh (Ideal.ofBits FTy.f32 1061962282#32 * (a + Ideal.ofBits FTy.f32 1027024659#32 * (a * (a * a))))) +
        Ideal.ofBits FTy.f32 1056964608#32 * a *
              (1 - Ideal.tanh (Ideal.ofBits FTy.f32 1061962282#32 * (a + Ideal.ofBits FTy.f32 1027024659#32 * (a * (a * a)))) *
                  Ideal.tanh (Ideal.ofBits FTy.f32 1061962282#32 * (a + Ideal.ofBits FTy.f32 1027024659#32 * (a * (a * a))))) *
            Ideal.ofBits FTy.f32 1061962282#32 *
          (1 + Ideal.ofBits FTy.f32 1040801103#32 * a * a))

/-- The greatest magnitude of 128 values. -/
def amax (v : Fin 128 → EReal) : EReal :=
  Finset.fold max (Ideal.ofBits FTy.f32 4286578688#32) (fun x => FloatOps.absf (F := Ideal) (φ := .f32) (v x)) Finset.univ

/-- The exponent of a tile of greatest magnitude `m`: the least power of two above `m / 57344`, and 0 of a tile of zeros. -/
def expo (m : EReal) : EReal :=
  if m = 0 then 0 else
    Ideal.liftRound Int.floor (Ideal.div (Ideal.log (m * Ideal.ofBits FTy.f32 932333861#32)) (Ideal.log (Ideal.ofBits FTy.f32 1073741824#32))) + 1

/-- A value's code at exponent `e`. -/
def code (v e : EReal) : EReal :=
  min (Ideal.ofBits FTy.f32 1197473792#32) (max (Ideal.ofBits FTy.f32 3344957440#32) (v * FloatOps.exp2 (F := Ideal) (φ := .f32) (0 - e)))

namespace In

variable (I : In)

/-- The dequantised activations. -/
def X (r : Fin 128) (c : Fin 768) : EReal := I.xq r c * I.xs r (t6 c)
/-- The dequantised incoming gradient. -/
def DY (r : Fin 128) (c : Fin 768) : EReal := I.dyq r c * I.dys r (t6 c)
/-- The dequantised first weight. -/
def W1 (c : Fin 768) (f : Fin 3072) : EReal := I.w1q c f * I.w1s (t6 c) (t24 f)
/-- The dequantised second weight. -/
def W2 (f : Fin 3072) (c : Fin 768) : EReal := I.w2q f c * I.w2s (t24 f) (t6 c)
/-- The gradient of the pre-activations. -/
def G (r : Fin 128) (f : Fin 3072) : EReal := gelu' (∑ c, I.X r c * I.W1 c f) (∑ c, I.DY r c * I.W2 f c)
/-- The exponent of tile `j` of row `r`. -/
def E (r : Fin 128) (j : Fin 24) : EReal := expo (amax fun l => I.G r (at24 j l))
/-- The codes of the gradient. -/
def C (r : Fin 128) (f : Fin 3072) : EReal := code (I.G r f) (I.E r (t24 f))
/-- The scales of the gradient. -/
def S (r : Fin 128) (j : Fin 24) : EReal := FloatOps.exp2 (F := Ideal) (φ := .f32) (I.E r j)
/-- The input gradient. -/
def DX (r : Fin 128) (c : Fin 768) : EReal := ∑ f, I.C r f * I.S r (t24 f) * I.W1 c f

end In

end Cert.Moe
-- ==== Proof.KPoint.lean ====
/- The kernel's chunks at an index, at exact arithmetic: the row block's mathematics (`Cert.Moe.In`). -/
module

public import proofs.«01_k».proof.Proof.KBody
public import proofs.«01_k».proof.Proof.Spec

@[expose] public section

set_option maxRecDepth 65536

noncomputable section

namespace Cert.KernelIdeal.Gen.Body

open Idealize.ShloMosaic Cert.KernelIdeal Cert.KernelIdeal.Gen Cert.Moe

/-- The gradient of the pre-activations of one chunk at an index. -/
theorem daC_at (a dh : FVec Ideal S128x256 .f32) (r : Fin 128) (f : Fin 256) :
    (daC a dh (ix2 r f) : EReal) = gelu' (a (ix2 r f)) (dh (ix2 r f)) := by
  pointwise [daC]
  rfl

/-- The pre-activation of one chunk at an index. -/
theorem aC_at (X : FVec Ideal S128x768 .bf16) (w1 : FVec Ideal S768x256 .bf16) (r : Fin 128) (f : Fin 256) :
    (aC X w1 (ix2 r f) : EReal) = ∑ c : Fin 768, (X (ix2 r c) : EReal) * (w1 (ix2 c f) : EReal) := by
  pointwise [aC]

/-- The gradient of one chunk of the hidden activations at an index. -/
theorem dhC_at (DY : FVec Ideal S128x768 .bf16) (w2 : FVec Ideal S256x768 .bf16) (r : Fin 128) (f : Fin 256) :
    (dhC DY w2 (ix2 r f) : EReal) = ∑ c : Fin 768, (DY (ix2 r c) : EReal) * (w2 (ix2 f c) : EReal) := by
  pointwise [dhC]

/-- One half of a chunk at an index. -/
theorem vC_at (da : FVec Ideal S128x256 .f32) (h : Fin 2) (r l : Fin 128) :
    (vC da h (ix2 r l) : EReal) = da (ix2 r ⟨128 * h.val + l.val, by omega⟩) := by
  fin_cases h
  · pointwise [vC]
    first | done | (congr 2; apply Fin.ext; simp)
  · pointwise [vC]
    first | done | rfl | (congr 2; apply Fin.ext; simp; try omega)

/-- One column of the scales set, at an index. -/
theorem scC_at (acc : FVec Ideal S128x24 .f32) (j : Nat) (hj : j < 24) (s : FVec Ideal S128x1 .f32) (r : Fin 128) (l : Fin 24) :
    (scC acc (BitVec.ofNat 32 j) s (ix2 r l) : EReal) = if l.val = j then (s (ix2 r 0) : EReal) else acc (ix2 r l) := by
  pointwise [scC]
  unfold Scalar.select
  by_cases e : l.val = j
  · subst e
    simp [IntOp.cmpi]
  · have hne : (BitVec.ofNat 32 l.val) ≠ BitVec.ofNat 32 j := by
      intro h
      have := congrArg BitVec.toNat h
      simp only [BitVec.toNat_ofNat] at this
      omega
    rw [if_neg e, if_neg]
    have hb : (BitVec.ofNat 32 l.val == BitVec.ofNat 32 j) = false := beq_eq_false_iff_ne.mpr hne
    simp only [IntOp.cmpi, hb]
    decide

/-- The word of -1.0 is minus one. -/
theorem ofBits_neg_one : Ideal.ofBits FTy.f32 3212836864#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- The reciprocal of 57344 is not zero. -/
theorem ofBits_c_ne : Ideal.ofBits FTy.f32 932333861#32 ≠ 0 := by
  simp [Ideal.ofBits, Ideal.ieee, -EReal.coe_mul, -EReal.coe_neg]

/-- Negating an exponent: what the kernel subtracts from minus one. -/
theorem neg_one_sub (e : EReal) : -1 - e = 0 - (e + 1) := by
  rw [zero_sub, EReal.neg_add (.inr (by decide)) (.inr (by decide)), sub_eq_add_neg, sub_eq_add_neg, add_comm]

/-- Minus one and one is zero. -/
theorem neg_one_add : (-1 : EReal) + 1 = 0 := by
  rw [show (-1 : EReal) = ((-(1 : ℝ) : ℝ) : EReal) by rw [EReal.coe_neg, EReal.coe_one], show (1 : EReal) = ((1 : ℝ) : EReal) by norm_cast, ← EReal.coe_add]
  norm_num

/-- A tile's exponent, less one. -/
theorem eC_at (v : FVec Ideal S128x128 .f32) (r : Fin 128) :
    (eC v (ix2 r 0) : EReal) + 1 = expo (amax fun l => v (ix2 r l)) := by
  pointwise [eC]
  unfold expo
  change (if amax (fun l => v (ix2 r l)) * _ = 0 then _ else _) + 1 = _
  by_cases hm : amax (fun l => (v (ix2 r l) : EReal)) = 0
  · rw [if_pos (by rw [hm, zero_mul]), if_pos hm, ofBits_neg_one]
    exact neg_one_add
  · rw [if_neg (by rw [mul_eq_zero]; exact not_or.mpr ⟨hm, ofBits_c_ne⟩), if_neg hm]
    rfl

/-- A tile's scale. -/
theorem sC_at (v : FVec Ideal S128x128 .f32) (r : Fin 128) :
    (sC v (ix2 r 0) : EReal) = FloatOps.exp2 (F := Ideal) (φ := .f32) (expo (amax fun l => v (ix2 r l))) := by
  rw [← eC_at]
  pointwise [sC]

/-- A tile's codes. -/
theorem codeC_at (v : FVec Ideal S128x128 .f32) (r l : Fin 128) :
    (codeC v (ix2 r l) : EReal) = code (v (ix2 r l)) (expo (amax fun l => v (ix2 r l))) := by
  rw [← eC_at]
  pointwise [codeC]
  unfold code
  rw [ofBits_neg_one, neg_one_sub]

/-- A tile decoded again. -/
theorem deqC_at (v : FVec Ideal S128x128 .f32) (r l : Fin 128) :
    (deqC v (ix2 r l) : EReal) = (codeC v (ix2 r l) : EReal) * (sC v (ix2 r 0) : EReal) := by
  pointwise [deqC]

/-- One chunk's addend of the input gradient. -/
theorem dxC_at (acc : FVec Ideal S128x768 .f32) (da : FVec Ideal S128x256 .f32) (w1 : FVec Ideal S768x256 .bf16) (r : Fin 128) (c : Fin 768) :
    (dxC acc da w1 (ix2 r c) : EReal) = (acc (ix2 r c) : EReal)
      + (∑ x : Fin 128, (deqC (vC da 0) (ix2 r x) : EReal) * (w1 (ix2 c ⟨x.val, by omega⟩) : EReal)
        + ∑ x : Fin 128, (deqC (vC da 1) (ix2 r x) : EReal) * (w1 (ix2 c ⟨128 + x.val, by omega⟩) : EReal)) := by
  pointwise [dxC]

/-- What the loads of one row block read: `I`'s operands. -/
structure Reads (I : In) (q1 : Fin 6 → Fin 24 → FVec Ideal S128x128 .fp8e4m3) (s1 : Fin 6 → Fin 24 → Ideal .f32)
    (q2 : Fin 24 → Fin 6 → FVec Ideal S128x128 .fp8e4m3) (s2 : Fin 24 → Fin 6 → Ideal .f32) (X DY : FVec Ideal S128x768 .bf16) : Prop where
  q1 : ∀ k j (a b : Fin 128), (q1 k j (ix2 a b) : EReal) = I.w1q ⟨128 * k.val + a.val, by omega⟩ ⟨128 * j.val + b.val, by omega⟩
  s1 : ∀ k j, (s1 k j : EReal) = I.w1s k j
  q2 : ∀ j k (a b : Fin 128), (q2 j k (ix2 a b) : EReal) = I.w2q ⟨128 * j.val + a.val, by omega⟩ ⟨128 * k.val + b.val, by omega⟩
  s2 : ∀ j k, (s2 j k : EReal) = I.w2s j k
  X : ∀ r c, (X (ix2 r c) : EReal) = I.X r c
  DY : ∀ r c, (DY (ix2 r c) : EReal) = I.DY r c

variable {I : In} {q1 : Fin 6 → Fin 24 → FVec Ideal S128x128 .fp8e4m3} {s1 : Fin 6 → Fin 24 → Ideal .f32}
  {q2 : Fin 24 → Fin 6 → FVec Ideal S128x128 .fp8e4m3} {s2 : Fin 24 → Fin 6 → Ideal .f32} {X DY : FVec Ideal S128x768 .bf16}

/-- A chunk of the first weight at an index. -/
theorem w1N_at (h : Reads I q1 s1 q2 s2 X DY) (n : Fin 12) (c : Fin 768) (f : Fin 256) :
    (w1N q1 s1 n (ix2 c f) : EReal) = I.W1 c ⟨256 * n.val + f.val, by omega⟩ := by
  have key : ∀ (k : Fin 6) (b : Fin 2) (x y : Fin 128), 128 * k.val + x.val = c.val → 128 * b.val + y.val = f.val →
      (q1 k (col n b) (ix2 x y) : EReal) * (s1 k (col n b) : EReal) = I.W1 c ⟨256 * n.val + f.val, by omega⟩ := by
    intro k b x y hc hf
    rw [h.q1, h.s1]
    unfold In.W1
    congr 2
    · exact Fin.ext hc
    · apply Fin.ext; show 128 * (2 * n.val + b.val) + y.val = 256 * n.val + f.val; omega
    · apply Fin.ext; show k.val = c.val / 128; omega
    · apply Fin.ext; show 2 * n.val + b.val = (256 * n.val + f.val) / 128; omega
  pointwise [w1N, w1C, blk]
  split_ifs <;> apply key <;> simp <;> omega

/-- A chunk of the second weight at an index. -/
theorem w2N_at (h : Reads I q1 s1 q2 s2 X DY) (n : Fin 12) (f : Fin 256) (c : Fin 768) :
    (w2C (fun b k => q2 (col n b) k) (fun b k => s2 (col n b) k) (ix2 f c) : EReal) = I.W2 ⟨256 * n.val + f.val, by omega⟩ c := by
  have key : ∀ (k : Fin 6) (b : Fin 2) (x y : Fin 128), 128 * k.val + x.val = c.val → 128 * b.val + y.val = f.val →
      (q2 (col n b) k (ix2 y x) : EReal) * (s2 (col n b) k : EReal) = I.W2 ⟨256 * n.val + f.val, by omega⟩ c := by
    intro k b x y hc hf
    rw [h.q2, h.s2]
    unfold In.W2
    congr 2
    · apply Fin.ext; show 128 * (2 * n.val + b.val) + y.val = 256 * n.val + f.val; omega
    · exact Fin.ext hc
    · apply Fin.ext; show 2 * n.val + b.val = (256 * n.val + f.val) / 128; omega
    · apply Fin.ext; show k.val = c.val / 128; omega
  pointwise [w2C, blk]
  split_ifs <;> apply key <;> simp <;> omega

/-- The dequantised activations at an index. -/
theorem xC_at (Q : FVec Ideal S128x768 .fp8e4m3) (s : FVec Ideal S128x6 .f32) (r : Fin 128) (c : Fin 768) :
    (xC Q s (ix2 r c) : EReal) = (Q (ix2 r c) : EReal) * (s (ix2 r (t6 c)) : EReal) := by
  have key : ∀ (c' : Fin 768) (k : Fin 6), c'.val = c.val → k.val = c.val / 128 →
      (Q (ix2 r c') : EReal) * (s (ix2 r k) : EReal) = (Q (ix2 r c) : EReal) * (s (ix2 r (t6 c)) : EReal) := by
    intro c' k h1 h2
    obtain rfl : c' = c := Fin.ext h1
    obtain rfl : k = t6 c' := Fin.ext h2
    rfl
  pointwise [xC]
  split_ifs <;> apply key <;> simp <;> omega

/-- The dequantised incoming gradient at an index. -/
theorem dyC_at (Q : FVec Ideal S128x768 .fp8e5m2) (s : FVec Ideal S128x6 .f32) (r : Fin 128) (c : Fin 768) :
    (dyC Q s (ix2 r c) : EReal) = (Q (ix2 r c) : EReal) * (s (ix2 r (t6 c)) : EReal) := by
  have key : ∀ (c' : Fin 768) (k : Fin 6), c'.val = c.val → k.val = c.val / 128 →
      (Q (ix2 r c') : EReal) * (s (ix2 r k) : EReal) = (Q (ix2 r c) : EReal) * (s (ix2 r (t6 c)) : EReal) := by
    intro c' k h1 h2
    obtain rfl : c' = c := Fin.ext h1
    obtain rfl : k = t6 c' := Fin.ext h2
    rfl
  pointwise [dyC]
  split_ifs <;> apply key <;> simp <;> omega

/-- The gradient of the pre-activations, a tile of a chunk at an index. -/
theorem vN_at (h : Reads I q1 s1 q2 s2 X DY) (n : Fin 12) (b : Fin 2) (r l : Fin 128) :
    (vC (daN q1 s1 q2 s2 X DY n) b (ix2 r l) : EReal) = I.G r (at24 (col n b) l) := by
  rw [vC_at]
  unfold daN
  rw [daC_at, aC_at, dhC_at]
  have e : (⟨256 * n.val + (128 * b.val + l.val), by omega⟩ : Fin 3072) = at24 (col n b) l := by
    apply Fin.ext; show 256 * n.val + (128 * b.val + l.val) = (2 * n.val + b.val) * 128 + l.val; omega
  simp only [h.X, h.DY, w1N_at h, w2N_at h, e]
  rfl

/-- The exponent of a tile of the gradient. -/
theorem eN_at (h : Reads I q1 s1 q2 s2 X DY) (n : Fin 12) (b : Fin 2) (r : Fin 128) :
    expo (amax fun l => (vC (daN q1 s1 q2 s2 X DY n) b (ix2 r l) : EReal)) = I.E r (col n b) := by
  unfold In.E
  simp only [vN_at h]

/-- Column `l` of tile `j` lies in tile `j`. -/
theorem t24_at (j : Fin 24) (l : Fin 128) : t24 (at24 j l) = j := by
  apply Fin.ext; show (j.val * 128 + l.val) / 128 = j.val; omega

/-- The codes of a tile of the gradient. -/
theorem codeN_at (h : Reads I q1 s1 q2 s2 X DY) (n : Fin 12) (b : Fin 2) (r l : Fin 128) :
    (codeC (vC (daN q1 s1 q2 s2 X DY n) b) (ix2 r l) : EReal) = I.C r (at24 (col n b) l) := by
  rw [codeC_at, eN_at h, vN_at h]
  unfold In.C
  rw [t24_at]

/-- The scales of a tile of the gradient. -/
theorem sN_at (h : Reads I q1 s1 q2 s2 X DY) (n : Fin 12) (b : Fin 2) (r : Fin 128) :
    (sC (vC (daN q1 s1 q2 s2 X DY n) b) (ix2 r 0) : EReal) = I.S r (col n b) := by
  rw [sC_at, eN_at h]
  rfl

/-- The scales after all column blocks. -/
theorem scN_at (h : Reads I q1 s1 q2 s2 X DY) (r : Fin 128) (j : Fin 24) :
    (scN q1 s1 q2 s2 X DY 24 (ix2 r j) : EReal) = I.S r j := by
  have key : ∀ n : Nat, j.val < n → n ≤ 24 → (scN q1 s1 q2 s2 X DY n (ix2 r j) : EReal) = I.S r j := by
    intro n
    induction n with
    | zero => intro h0; omega
    | succ n ih =>
      intro hj hn
      unfold scN
      rw [dif_pos (by omega), scC_at _ _ (by omega)]
      split_ifs with e
      · rw [sN_at h]
        congr 1
        apply Fin.ext
        show 2 * (n / 2) + n % 2 = j.val
        omega
      · exact ih (by omega) (by omega)
  exact key 24 j.isLt le_rfl

/-- A sum over the hidden dimension, tile by tile of the first `n` chunks. -/
theorem dxN_at (h : Reads I q1 s1 q2 s2 X DY) (r : Fin 128) (c : Fin 768) :
    (dxN q1 s1 q2 s2 X DY 12 (ix2 r c) : EReal) = I.DX r c := by
  let T : Fin 3072 → EReal := fun f => I.C r f * I.S r (t24 f) * I.W1 c f
  have step : ∀ n : Fin 12, (dxC (dxN q1 s1 q2 s2 X DY n.val) (daN q1 s1 q2 s2 X DY n) (w1N q1 s1 n) (ix2 r c) : EReal)
      = (dxN q1 s1 q2 s2 X DY n.val (ix2 r c) : EReal) + ∑ f : Fin 256, T ⟨256 * n.val + f.val, by omega⟩ := by
    intro n
    rw [dxC_at]
    congr 1
    rw [show (∑ f : Fin 256, T ⟨256 * n.val + f.val, by omega⟩) = ∑ f : Fin (128 + 128), T ⟨256 * n.val + f.val, by omega⟩ from rfl, Fin.sum_univ_add]
    have e0 : ∀ x : Fin 128, at24 (col n 0) x = ⟨256 * n.val + x.val, by omega⟩ := by
      intro x; apply Fin.ext; show (2 * n.val + 0) * 128 + x.val = _; simp; omega
    have e1 : ∀ x : Fin 128, at24 (col n 1) x = ⟨256 * n.val + (128 + x.val), by omega⟩ := by
      intro x; apply Fin.ext; show (2 * n.val + 1) * 128 + x.val = _; simp; omega
    congr 1
    · refine Finset.sum_congr rfl fun x _ => ?_
      rw [deqC_at, codeN_at h, sN_at h, w1N_at h]
      show _ = I.C r ⟨256 * n.val + x.val, by omega⟩ * I.S r (t24 ⟨256 * n.val + x.val, by omega⟩) * I.W1 c ⟨256 * n.val + x.val, by omega⟩
      rw [← e0, t24_at]
    · refine Finset.sum_congr rfl fun x _ => ?_
      rw [deqC_at, codeN_at h, sN_at h, w1N_at h]
      show _ = I.C r ⟨256 * n.val + (128 + x.val), by omega⟩ * I.S r (t24 ⟨256 * n.val + (128 + x.val), by omega⟩) * I.W1 c ⟨256 * n.val + (128 + x.val), by omega⟩
      rw [← e1, t24_at]
  have key : ∀ n : Nat, (hn : n ≤ 12) → (dxN q1 s1 q2 s2 X DY n (ix2 r c) : EReal) = ∑ f : Fin (256 * n), T ⟨f.val, by omega⟩ := by
    intro n
    induction n with
    | zero =>
      intro _
      unfold dxN
      pointwise []
      simp
    | succ n ih =>
      intro hn
      unfold dxN
      rw [dif_pos (by omega)]
      refine (step ⟨n, by omega⟩).trans ?_
      refine (congrArg (· + _) (ih (by omega))).trans ?_
      rw [show (∑ f : Fin (256 * (n + 1)), T ⟨f.val, by omega⟩) = ∑ f : Fin (256 * n + 256), T ⟨f.val, by omega⟩ from rfl, Fin.sum_univ_add]
      rfl
  exact key 12 le_rfl

end Cert.KernelIdeal.Gen.Body
-- ==== Proof.KLoad.lean ====
/- What the kernel's loads read of its blocks: one row block's operands. -/
module

public import proofs.«01_k».proof.Proof.KPoint
public import proofs.«01_k».proof.Proof.TblKernelIdeal

@[expose] public section

set_option maxRecDepth 65536

noncomputable section

namespace Cert.KernelIdeal.Gen.Body

open Idealize.ShloMosaic Cert.KernelIdeal Cert.KernelIdeal.Gen Cert.Moe

/-- One row block's operands in the kernel's blocks, of expert `v`. -/
def inB (v : Nat) (hv : v < 120) (x0 x1 : Vec Ideal S17280 .f32) (x2 : Vec Ideal S128x768 .fp8e4m3) (x3 : Vec Ideal S128x6 .f32)
    (x4 : Vec Ideal S128x768 .fp8e5m2) (x5 : Vec Ideal S128x6 .f32) (x6 : Vec Ideal S768x3072 .fp8e4m3) (x7 : Vec Ideal S3072x768 .fp8e4m3) : In where
  xq r c := x2 (ix2 r c)
  xs r b := x3 (ix2 r b)
  w1q c f := x6 (ix2 c f)
  w1s k j := x0 (ix1 ⟨v * 144 + k.val * 24 + j.val, by omega⟩)
  w2q f c := x7 (ix2 f c)
  w2s j k := x1 (ix1 ⟨v * 144 + j.val * 6 + k.val, by omega⟩)
  dyq r c := x4 (ix2 r c)
  dys r b := x5 (ix2 r b)

/-- The tiles, scales and rows the body reads of its blocks are the row block's operands. -/
theorem reads (arg2 : Memref sig .tc .smem S17280 .f32) (harg2 : arg2.IsWhole) (arg3 : Memref sig .tc .smem S17280 .f32) (harg3 : arg3.IsWhole) (arg4 : Memref sig .tc .vmem S128x768 .fp8e4m3) (harg4 : arg4.IsWhole) (arg5 : Memref sig .tc .vmem S128x6 .f32) (harg5 : arg5.IsWhole) (arg6 : Memref sig .tc .vmem S128x768 .fp8e5m2) (harg6 : arg6.IsWhole) (arg7 : Memref sig .tc .vmem S128x6 .f32) (harg7 : arg7.IsWhole) (arg8 : Memref sig .tc .vmem S768x3072 .fp8e4m3) (harg8 : arg8.IsWhole) (arg9 : Memref sig .tc .vmem S3072x768 .fp8e4m3) (harg9 : arg9.IsWhole)
    (x0 x1 : Vec Ideal S17280 .f32) (x2 : Vec Ideal S128x768 .fp8e4m3) (x3 : Vec Ideal S128x6 .f32)
    (x4 : Vec Ideal S128x768 .fp8e5m2) (x5 : Vec Ideal S128x6 .f32) (x6 : Vec Ideal S768x3072 .fp8e4m3) (x7 : Vec Ideal S3072x768 .fp8e4m3)
    (v : BitVec 32) (hv : k0_chk1 v) (n : Nat) (hn : n < 120) (hvn : v.toNat = n) :
    Reads (inB n hn x0 x1 x2 x3 x4 x5 x6 x7) (q1 arg8 harg8 x6) (s1 arg2 harg2 x0 v hv) (q2 arg9 harg9 x7) (s2 arg3 harg3 x1 v hv)
      (xR arg4 harg4 arg5 harg5 x2 x3) (dyR arg6 harg6 arg7 harg7 x4 x5) where
  q1 k j a b := by
    unfold q1
    rw [View.readAt_apply, harg8.read_unread]
    show (x6 _ : EReal) = x6 (ix2 _ _)
    congr 1
    funext d
    apply Fin.ext
    fin_cases d
    · show 128 * k.val + 1 * a.val = 128 * k.val + a.val; omega
    · show 128 * j.val + 1 * b.val = 128 * j.val + b.val; omega
  s1 k j := by
    unfold s1
    rw [View.readAt_apply, harg2.read_unread]
    show (x0 _ : EReal) = x0 (ix1 _)
    congr 1
    funext d
    obtain rfl : d = 0 := Subsingleton.elim _ _
    apply Fin.ext
    show k0_off2 v _ _ 0 + 0 = n * 144 + k.val * 24 + j.val
    have e1 : (BitVec.ofNat 32 (24 * k.val)).toNat = 24 * k.val := by simp only [BitVec.toNat_ofNat]; omega
    have e2 : (BitVec.ofNat 32 j.val).toNat = j.val := by simp only [BitVec.toNat_ofNat]; omega
    rw [Tbl.off2_eq _ _ _ (by omega) (by omega)]
    omega
  q2 j k a b := by
    unfold q2
    rw [View.readAt_apply, harg9.read_unread]
    show (x7 _ : EReal) = x7 (ix2 _ _)
    congr 1
    funext d
    apply Fin.ext
    fin_cases d
    · show 128 * j.val + 1 * a.val = 128 * j.val + a.val; omega
    · show 128 * k.val + 1 * b.val = 128 * k.val + b.val; omega
  s2 j k := by
    unfold s2
    rw [View.readAt_apply, harg3.read_unread]
    show (x1 _ : EReal) = x1 (ix1 _)
    congr 1
    funext d
    obtain rfl : d = 0 := Subsingleton.elim _ _
    apply Fin.ext
    show k0_off2 v _ _ 0 + 0 = n * 144 + j.val * 6 + k.val
    have e1 : (BitVec.ofNat 32 (6 * j.val)).toNat = 6 * j.val := by simp only [BitVec.toNat_ofNat]; omega
    have e2 : (BitVec.ofNat 32 k.val).toNat = k.val := by simp only [BitVec.toNat_ofNat]; omega
    rw [Tbl.off2_eq _ _ _ (by omega) (by omega)]
    omega
  X r c := by
    unfold xR
    rw [xC_at, View.readAt_apply, View.readAt_apply, harg4.read_unread, harg5.read_unread]
    show (x2 _ : EReal) * x3 _ = x2 (ix2 r c) * x3 (ix2 r (t6 c))
    congr 2 <;> funext d <;> apply Fin.ext <;> fin_cases d <;> simp [Rect.toLoadRect, LoadRect.idx, Rect.unit]
  DY r c := by
    unfold dyR
    rw [dyC_at, View.readAt_apply, View.readAt_apply, harg6.read_unread, harg7.read_unread]
    show (x4 _ : EReal) * x5 _ = x4 (ix2 r c) * x5 (ix2 r (t6 c))
    congr 2 <;> funext d <;> apply Fin.ext <;> fin_cases d <;> simp [Rect.toLoadRect, LoadRect.idx, Rect.unit]

end Cert.KernelIdeal.Gen.Body
-- ==== Proof.KRun.lean ====
/- What the body's run stores in each output's block, by unfolding: the functions of `KBody`. -/
module

public import proofs.«01_k».proof.Proof.KBody
public import Idealize.ShloMosaic.Lib.Tactic
@[expose] public section
set_option maxRecDepth 65536
set_option maxHeartbeats 0
noncomputable section
namespace Cert.KernelIdeal.Gen.Body
open Idealize.ShloMosaic Cert.KernelIdeal Cert.KernelIdeal.Gen
variable {F : FTy → Type} [FloatOps F]
open Idealize.ShloMosaic.Tactic

variable (c : Dev nD) (i : grid0.Coords) (arg2 : Memref sig .tc .smem S17280 .f32) (harg2 : arg2.IsWhole) (arg3 : Memref sig .tc .smem S17280 .f32) (harg3 : arg3.IsWhole) (arg4 : Memref sig .tc .vmem S128x768 .fp8e4m3) (harg4 : arg4.IsWhole) (arg5 : Memref sig .tc .vmem S128x6 .f32) (harg5 : arg5.IsWhole) (arg6 : Memref sig .tc .vmem S128x768 .fp8e5m2) (harg6 : arg6.IsWhole) (arg7 : Memref sig .tc .vmem S128x6 .f32) (harg7 : arg7.IsWhole) (arg8 : Memref sig .tc .vmem S768x3072 .fp8e4m3) (harg8 : arg8.IsWhole) (arg9 : Memref sig .tc .vmem S3072x768 .fp8e4m3) (harg9 : arg9.IsWhole) (arg10 : Memref sig .tc .vmem S128x768 .bf16) (harg10 : arg10.IsWhole) (arg11 : Memref sig .tc .vmem S128x3072 .fp8e5m2) (harg11 : arg11.IsWhole) (arg12 : Memref sig .tc .vmem S128x24 .f32) (harg12 : arg12.IsWhole)
    (x0 : Vec F S17280 .f32) (x1 : Vec F S17280 .f32) (x2 : Vec F S128x768 .fp8e4m3) (x3 : Vec F S128x6 .f32) (x4 : Vec F S128x768 .fp8e5m2) (x5 : Vec F S128x6 .f32) (x6 : Vec F S768x3072 .fp8e4m3) (x7 : Vec F S3072x768 .fp8e4m3) (xt0 : TbBuf0 (F := F) c tbM0_0) (k0_hw1 : k0_chk1 (tbM0_0.view.readAt (Elt F) (Rect.unit (s := S376) (k0_off1 i) S1.size (k0_off1_inb i)).toLoadRect xt0 (Shape.Idx.first (numel1_S1.symm ▸ Nat.one_pos))))

/-- The run stores the scales once, at its end: the scales after all 24 column blocks. -/
theorem L10 : (kernelRun0_A c i arg2 harg2 arg3 harg3 arg4 harg4 arg5 harg5 arg6 harg6 arg7 harg7 arg8 harg8 arg9 harg9 arg10 harg10 arg11 harg11 arg12 harg12 x0 x1 x2 x3 x4 x5 x6 x7 xt0 k0_hw1).2.2.1 = [⟨Rect.unit ![0,0] ![128,24] inb_S128x24_S128x24_0_0, scN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) 24⟩] := by
  sl_kernel_rfl

/-- The run stores the codes column block by column block, the last first: those of each half of each chunk. -/
theorem L9 : (kernelRun0_A c i arg2 harg2 arg3 harg3 arg4 harg4 arg5 harg5 arg6 harg6 arg7 harg7 arg8 harg8 arg9 harg9 arg10 harg10 arg11 harg11 arg12 harg12 x0 x1 x2 x3 x4 x5 x6 x7 xt0 k0_hw1).2.1 = [⟨Rect.unit ![0,2944] ![128,128] inb_S128x3072_S128x128_0_2944, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨11, by omega⟩) 1)⟩,
    ⟨Rect.unit ![0,2816] ![128,128] inb_S128x3072_S128x128_0_2816, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨11, by omega⟩) 0)⟩,
    ⟨Rect.unit ![0,2688] ![128,128] inb_S128x3072_S128x128_0_2688, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨10, by omega⟩) 1)⟩,
    ⟨Rect.unit ![0,2560] ![128,128] inb_S128x3072_S128x128_0_2560, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨10, by omega⟩) 0)⟩,
    ⟨Rect.unit ![0,2432] ![128,128] inb_S128x3072_S128x128_0_2432, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨9, by omega⟩) 1)⟩,
    ⟨Rect.unit ![0,2304] ![128,128] inb_S128x3072_S128x128_0_2304, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨9, by omega⟩) 0)⟩,
    ⟨Rect.unit ![0,2176] ![128,128] inb_S128x3072_S128x128_0_2176, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨8, by omega⟩) 1)⟩,
    ⟨Rect.unit ![0,2048] ![128,128] inb_S128x3072_S128x128_0_2048, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨8, by omega⟩) 0)⟩,
    ⟨Rect.unit ![0,1920] ![128,128] inb_S128x3072_S128x128_0_1920, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨7, by omega⟩) 1)⟩,
    ⟨Rect.unit ![0,1792] ![128,128] inb_S128x3072_S128x128_0_1792, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨7, by omega⟩) 0)⟩,
    ⟨Rect.unit ![0,1664] ![128,128] inb_S128x3072_S128x128_0_1664, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨6, by omega⟩) 1)⟩,
    ⟨Rect.unit ![0,1536] ![128,128] inb_S128x3072_S128x128_0_1536, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨6, by omega⟩) 0)⟩,
    ⟨Rect.unit ![0,1408] ![128,128] inb_S128x3072_S128x128_0_1408, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨5, by omega⟩) 1)⟩,
    ⟨Rect.unit ![0,1280] ![128,128] inb_S128x3072_S128x128_0_1280, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨5, by omega⟩) 0)⟩,
    ⟨Rect.unit ![0,1152] ![128,128] inb_S128x3072_S128x128_0_1152, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨4, by omega⟩) 1)⟩,
    ⟨Rect.unit ![0,1024] ![128,128] inb_S128x3072_S128x128_0_1024, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨4, by omega⟩) 0)⟩,
    ⟨Rect.unit ![0,896] ![128,128] inb_S128x3072_S128x128_0_896, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨3, by omega⟩) 1)⟩,
    ⟨Rect.unit ![0,768] ![128,128] inb_S128x3072_S128x128_0_768, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨3, by omega⟩) 0)⟩,
    ⟨Rect.unit ![0,640] ![128,128] inb_S128x3072_S128x128_0_640, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨2, by omega⟩) 1)⟩,
    ⟨Rect.unit ![0,512] ![128,128] inb_S128x3072_S128x128_0_512, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨2, by omega⟩) 0)⟩,
    ⟨Rect.unit ![0,384] ![128,128] inb_S128x3072_S128x128_0_384, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨1, by omega⟩) 1)⟩,
    ⟨Rect.unit ![0,256] ![128,128] inb_S128x3072_S128x128_0_256, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨1, by omega⟩) 0)⟩,
    ⟨Rect.unit ![0,128] ![128,128] inb_S128x3072_S128x128_0_128, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨0, by omega⟩) 1)⟩,
    ⟨Rect.unit ![0,0] ![128,128] inb_S128x3072_S128x128_0_0, codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) ⟨0, by omega⟩) 0)⟩] := by
  sl_kernel_rfl
/-- The run stores the input gradient once: the sum over all twelve chunks, in bf16. -/
theorem L8 : (kernelRun0_A c i arg2 harg2 arg3 harg3 arg4 harg4 arg5 harg5 arg6 harg6 arg7 harg7 arg8 harg8 arg9 harg9 arg10 harg10 arg11 harg11 arg12 harg12 x0 x1 x2 x3 x4 x5 x6 x7 xt0 k0_hw1).1 = [⟨Rect.unit ![0,0] ![128,768] inb_S128x768_S128x768_0_0, truncf .bf16 (dxN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) 12) bitsLt_bf16_f32⟩] := by
  sl_kernel_rfl
end Cert.KernelIdeal.Gen.Body
-- ==== Proof.KOut.lean ====
/- What one grid point leaves in each output's staging buffer, at an index: the row block's mathematics. -/
module

public import proofs.«01_k».proof.Proof.KLoad
public import proofs.«01_k».proof.Proof.KRun

@[expose] public section

set_option maxRecDepth 65536

noncomputable section

namespace Cert.KernelIdeal.Gen.Body

open Idealize.ShloMosaic Cert.KernelIdeal Cert.KernelIdeal.Gen Cert.Moe

variable (c : Dev nD) (i : grid0.Coords) (arg2 : Memref sig .tc .smem S17280 .f32) (harg2 : arg2.IsWhole) (arg3 : Memref sig .tc .smem S17280 .f32) (harg3 : arg3.IsWhole) (arg4 : Memref sig .tc .vmem S128x768 .fp8e4m3) (harg4 : arg4.IsWhole) (arg5 : Memref sig .tc .vmem S128x6 .f32) (harg5 : arg5.IsWhole) (arg6 : Memref sig .tc .vmem S128x768 .fp8e5m2) (harg6 : arg6.IsWhole) (arg7 : Memref sig .tc .vmem S128x6 .f32) (harg7 : arg7.IsWhole) (arg8 : Memref sig .tc .vmem S768x3072 .fp8e4m3) (harg8 : arg8.IsWhole) (arg9 : Memref sig .tc .vmem S3072x768 .fp8e4m3) (harg9 : arg9.IsWhole) (arg10 : Memref sig .tc .vmem S128x768 .bf16) (harg10 : arg10.IsWhole) (arg11 : Memref sig .tc .vmem S128x3072 .fp8e5m2) (harg11 : arg11.IsWhole) (arg12 : Memref sig .tc .vmem S128x24 .f32) (harg12 : arg12.IsWhole)
    (x0 : Vec Ideal S17280 .f32) (x1 : Vec Ideal S17280 .f32) (x2 : Vec Ideal S128x768 .fp8e4m3) (x3 : Vec Ideal S128x6 .f32) (x4 : Vec Ideal S128x768 .fp8e5m2) (x5 : Vec Ideal S128x6 .f32) (x6 : Vec Ideal S768x3072 .fp8e4m3) (x7 : Vec Ideal S3072x768 .fp8e4m3) (xt0 : TbBuf0 (F := Ideal) c tbM0_0) (k0_hw1 : k0_chk1 (tbM0_0.view.readAt (Elt Ideal) (Rect.unit (s := S376) (k0_off1 i) S1.size (k0_off1_inb i)).toLoadRect xt0 (Shape.Idx.first (numel1_S1.symm ▸ Nat.one_pos))))
variable (n : Nat) (hn : n < 120)
  (hv : (tbM0_0.view.readAt (Elt Ideal) (Rect.unit (s := S376) (k0_off1 i) S1.size (k0_off1_inb i)).toLoadRect xt0 (Shape.Idx.first (numel1_S1.symm ▸ Nat.one_pos)) : BitVec 32).toNat = n)
include hv

/-- The input gradient's block at an index. -/
theorem out8_at (r : Fin 128) (d : Fin 768) :
    (out0_A_8 (F := Ideal) c i arg2 harg2 arg3 harg3 arg4 harg4 arg5 harg5 arg6 harg6 arg7 harg7 arg8 harg8 arg9 harg9 arg10 harg10 arg11 harg11 arg12 harg12 x0 x1 x2 x3 x4 x5 x6 x7 xt0 k0_hw1 (ix2 r d) : EReal) = (inB n hn x0 x1 x2 x3 x4 x5 x6 x7).DX r d := by
  unfold out0_A_8
  rw [View.read_writes_junk_eq_canon, L8]
  refine (congrFun (View.canon_unit_zero (by funext a; fin_cases a <;> rfl) _ _) _).trans ?_
  exact dxN_at (reads arg2 harg2 arg3 harg3 arg4 harg4 arg5 harg5 arg6 harg6 arg7 harg7 arg8 harg8 arg9 harg9 x0 x1 x2 x3 x4 x5 x6 x7 _ k0_hw1 n hn hv) r d

/-- The scales' block at an index. -/
theorem out10_at (r : Fin 128) (j : Fin 24) :
    (out0_A_10 (F := Ideal) c i arg2 harg2 arg3 harg3 arg4 harg4 arg5 harg5 arg6 harg6 arg7 harg7 arg8 harg8 arg9 harg9 arg10 harg10 arg11 harg11 arg12 harg12 x0 x1 x2 x3 x4 x5 x6 x7 xt0 k0_hw1 (ix2 r j) : EReal) = (inB n hn x0 x1 x2 x3 x4 x5 x6 x7).S r j := by
  unfold out0_A_10
  rw [View.read_writes_junk_eq_canon, L10]
  refine (congrFun (View.canon_unit_zero (by funext a; fin_cases a <;> rfl) _ _) _).trans ?_
  exact scN_at (reads arg2 harg2 arg3 harg3 arg4 harg4 arg5 harg5 arg6 harg6 arg7 harg7 arg8 harg8 arg9 harg9 x0 x1 x2 x3 x4 x5 x6 x7 _ k0_hw1 n hn hv) r j

/-- The codes' block at an index. -/
theorem out9_at (r : Fin 128) (f : Fin 3072) :
    (out0_A_9 (F := Ideal) c i arg2 harg2 arg3 harg3 arg4 harg4 arg5 harg5 arg6 harg6 arg7 harg7 arg8 harg8 arg9 harg9 arg10 harg10 arg11 harg11 arg12 harg12 x0 x1 x2 x3 x4 x5 x6 x7 xt0 k0_hw1 (ix2 r f) : EReal) = (inB n hn x0 x1 x2 x3 x4 x5 x6 x7).C r f := by
  unfold out0_A_9
  rw [View.read_writes_junk_eq_canon]
  refine View.canon_apply_of_pieces (S := S128x3072) (fun y : S128x3072.Idx => ((inB n hn x0 x1 x2 x3 x4 x5 x6 x7).C (y 0) (y 1) : EReal)) _ ?_ _
    (cover0_A_9 c i arg2 harg2 arg3 harg3 arg4 harg4 arg5 harg5 arg6 harg6 arg7 harg7 arg8 harg8 arg9 harg9 arg10 harg10 arg11 harg11 arg12 harg12 x0 x1 x2 x3 x4 x5 x6 x7 xt0 k0_hw1 _)
  rw [L9]
  have h := reads arg2 harg2 arg3 harg3 arg4 harg4 arg5 harg5 arg6 harg6 arg7 harg7 arg8 harg8 arg9 harg9 x0 x1 x2 x3 x4 x5 x6 x7 _ k0_hw1 n hn hv
  have key : ∀ (k : Fin 12) (b : Fin 2) (o : Nat) (inb : ∀ a, (![0, o] : Fin 2 → Nat) a + (![128, 128] : Fin 2 → Nat) a ≤ S128x3072.size a),
      o = 256 * k.val + 128 * b.val → ∀ x : (Rect.unit (s := S128x3072) ![0, o] ![128, 128] inb).shape.Idx,
      (codeC (vC (daN (q1 arg8 harg8 x6) (s1 arg2 harg2 x0 _ k0_hw1) (q2 arg9 harg9 x7) (s2 arg3 harg3 x1 _ k0_hw1) (xR arg4 harg4 arg5 harg5 x2 x3) (dyR arg6 harg6 arg7 harg7 x4 x5) k) b) x : EReal)
        = (inB n hn x0 x1 x2 x3 x4 x5 x6 x7).C ((Rect.unit (s := S128x3072) ![0, o] ![128, 128] inb).emb x 0) ((Rect.unit (s := S128x3072) ![0, o] ![128, 128] inb).emb x 1) := by
    intro k b o inb ho x
    have ex : x = ix2 (x 0 : Fin 128) (x 1 : Fin 128) := by
      funext a; fin_cases a <;> rfl
    refine (congrArg _ ex).trans ?_
    refine (codeN_at h k b (x 0) (x 1)).trans ?_
    congr 1
    · apply Fin.ext; show (x 0).val = 0 + 1 * (x 0).val; omega
    · apply Fin.ext; show (2 * k.val + b.val) * 128 + (x 1).val = o + 1 * (x 1).val; omega
  intro p hp
  fin_cases hp
  · exact key ⟨11, by omega⟩ 1 2944 inb_S128x3072_S128x128_0_2944 rfl
  · exact key ⟨11, by omega⟩ 0 2816 inb_S128x3072_S128x128_0_2816 rfl
  · exact key ⟨10, by omega⟩ 1 2688 inb_S128x3072_S128x128_0_2688 rfl
  · exact key ⟨10, by omega⟩ 0 2560 inb_S128x3072_S128x128_0_2560 rfl
  · exact key ⟨9, by omega⟩ 1 2432 inb_S128x3072_S128x128_0_2432 rfl
  · exact key ⟨9, by omega⟩ 0 2304 inb_S128x3072_S128x128_0_2304 rfl
  · exact key ⟨8, by omega⟩ 1 2176 inb_S128x3072_S128x128_0_2176 rfl
  · exact key ⟨8, by omega⟩ 0 2048 inb_S128x3072_S128x128_0_2048 rfl
  · exact key ⟨7, by omega⟩ 1 1920 inb_S128x3072_S128x128_0_1920 rfl
  · exact key ⟨7, by omega⟩ 0 1792 inb_S128x3072_S128x128_0_1792 rfl
  · exact key ⟨6, by omega⟩ 1 1664 inb_S128x3072_S128x128_0_1664 rfl
  · exact key ⟨6, by omega⟩ 0 1536 inb_S128x3072_S128x128_0_1536 rfl
  · exact key ⟨5, by omega⟩ 1 1408 inb_S128x3072_S128x128_0_1408 rfl
  · exact key ⟨5, by omega⟩ 0 1280 inb_S128x3072_S128x128_0_1280 rfl
  · exact key ⟨4, by omega⟩ 1 1152 inb_S128x3072_S128x128_0_1152 rfl
  · exact key ⟨4, by omega⟩ 0 1024 inb_S128x3072_S128x128_0_1024 rfl
  · exact key ⟨3, by omega⟩ 1 896 inb_S128x3072_S128x128_0_896 rfl
  · exact key ⟨3, by omega⟩ 0 768 inb_S128x3072_S128x128_0_768 rfl
  · exact key ⟨2, by omega⟩ 1 640 inb_S128x3072_S128x128_0_640 rfl
  · exact key ⟨2, by omega⟩ 0 512 inb_S128x3072_S128x128_0_512 rfl
  · exact key ⟨1, by omega⟩ 1 384 inb_S128x3072_S128x128_0_384 rfl
  · exact key ⟨1, by omega⟩ 0 256 inb_S128x3072_S128x128_0_256 rfl
  · exact key ⟨0, by omega⟩ 1 128 inb_S128x3072_S128x128_0_128 rfl
  · exact key ⟨0, by omega⟩ 0 0 inb_S128x3072_S128x128_0_0 rfl

end Cert.KernelIdeal.Gen.Body
-- ==== Proof.InM.lean ====
/- A row block's operands, read off the argument arrays. -/
module

public import proofs.«01_k».proof.Proof.Spec

@[expose] public section

noncomputable section

namespace Cert.Moe

open Idealize.ShloMosaic

/-- Row block `R`'s operands when its expert is `e`: 128 rows of the activations and of the incoming gradient, and the expert's
    blocks of the two weights, each array with its scales. -/
def inA (a0 : (⟨2, ![48128, 768]⟩ : Shape).Idx → EReal) (a1 : (⟨2, ![48128, 6]⟩ : Shape).Idx → EReal)
    (a2 : (⟨2, ![768, 368640]⟩ : Shape).Idx → EReal) (a3 : (⟨2, ![6, 2880]⟩ : Shape).Idx → EReal)
    (a4 : (⟨2, ![368640, 768]⟩ : Shape).Idx → EReal) (a5 : (⟨2, ![2880, 6]⟩ : Shape).Idx → EReal)
    (a7 : (⟨2, ![48128, 768]⟩ : Shape).Idx → EReal) (a8 : (⟨2, ![48128, 6]⟩ : Shape).Idx → EReal)
    (e : Nat) (he : e < 120) (R : Fin 376) : In where
  xq r c := a0 (ix2 ⟨R.val * 128 + r.val, by omega⟩ c)
  xs r b := a1 (ix2 ⟨R.val * 128 + r.val, by omega⟩ b)
  w1q c f := a2 (ix2 c ⟨e * 3072 + f.val, by omega⟩)
  w1s k j := a3 (ix2 k ⟨e * 24 + j.val, by omega⟩)
  w2q f c := a4 (ix2 ⟨e * 3072 + f.val, by omega⟩ c)
  w2s j k := a5 (ix2 ⟨e * 24 + j.val, by omega⟩ k)
  dyq r c := a7 (ix2 ⟨R.val * 128 + r.val, by omega⟩ c)
  dys r b := a8 (ix2 ⟨R.val * 128 + r.val, by omega⟩ b)

end Cert.Moe
-- ==== Proof.KBlk.lean ====
/- The kernel's blocks at an index. -/
module

public import proofs.«01_k».proof.Proof.KOut
public import proofs.«01_k».proof.Proof.InM
public import proofs.«01_k».proof.Proof.TblKernelIdeal
public import Idealize.ShloMosaic.Lib.Pipeline.Value
public import Idealize.ShloMosaic.Lib.Pipeline.ValueKit.Geometry
public import Idealize.ShloMosaic.Lib.StableHlo.ReadAt

@[expose] public section

set_option maxRecDepth 65536
set_option maxHeartbeats 2000000

noncomputable section

namespace Cert.KernelIdeal.Gen.Arr

open Cert.KernelIdeal Cert.KernelIdeal.Gen Cert.KernelIdeal.Gen.Tbl Idealize.ShloMosaic Idealize.ShloMosaic.TcCoe Idealize.SL.Sem Cert.Moe
open Idealize.ShloMosaic.Pipeline (Dat)

variable (m : (ℓ : Loc nD τ sig) → Buf (Elt Ideal) ℓ)

/-- Grid point `t` is row block `t`. -/
theorem crd (t : Fin grid0.N) : (grid0.coords t 0).val = t.val :=
  (by decide +kernel : ∀ t : Fin grid0.N, (grid0.coords t 0).val = t.val) t

/-- There are 376 grid points. -/
theorem t_lt (t : Fin grid0.N) : t.val < 376 := t.isLt

/-- Window 2's block at grid point `t`: row block `t`. -/
theorem tr2 (t : Fin grid0.N) : cc0_transform_2 (grid0.coords t) = ![t.val, 0] :=
  (by decide +kernel : ∀ t : Fin grid0.N, cc0_transform_2 (grid0.coords t) = ![t.val, 0]) t

/-- Window 2, the activations' codes, is at row block `t`. -/
theorem idx2 (hO : Ok m) (t : Fin (cfgM m hO).N) : ((cfgM m hO).win 2).index t = ![t.val, 0] := tr2 t

/-- Window 3's block at grid point `t`: row block `t`. -/
theorem tr3 (t : Fin grid0.N) : cc0_transform_3 (grid0.coords t) = ![t.val, 0] :=
  (by decide +kernel : ∀ t : Fin grid0.N, cc0_transform_3 (grid0.coords t) = ![t.val, 0]) t

/-- Window 3, the activations' scales, is at row block `t`. -/
theorem idx3 (hO : Ok m) (t : Fin (cfgM m hO).N) : ((cfgM m hO).win 3).index t = ![t.val, 0] := tr3 t

/-- Window 4's block at grid point `t`: row block `t`. -/
theorem tr4 (t : Fin grid0.N) : cc0_transform_4 (grid0.coords t) = ![t.val, 0] :=
  (by decide +kernel : ∀ t : Fin grid0.N, cc0_transform_4 (grid0.coords t) = ![t.val, 0]) t

/-- Window 4, the incoming gradient's codes, is at row block `t`. -/
theorem idx4 (hO : Ok m) (t : Fin (cfgM m hO).N) : ((cfgM m hO).win 4).index t = ![t.val, 0] := tr4 t

/-- Window 5's block at grid point `t`: row block `t`. -/
theorem tr5 (t : Fin grid0.N) : cc0_transform_5 (grid0.coords t) = ![t.val, 0] :=
  (by decide +kernel : ∀ t : Fin grid0.N, cc0_transform_5 (grid0.coords t) = ![t.val, 0]) t

/-- Window 5, the incoming gradient's scales, is at row block `t`. -/
theorem idx5 (hO : Ok m) (t : Fin (cfgM m hO).N) : ((cfgM m hO).win 5).index t = ![t.val, 0] := tr5 t

/-- Window 8's block at grid point `t`: row block `t`. -/
theorem tr8 (t : Fin grid0.N) : cc0_transform_8 (grid0.coords t) = ![t.val, 0] :=
  (by decide +kernel : ∀ t : Fin grid0.N, cc0_transform_8 (grid0.coords t) = ![t.val, 0]) t

/-- Window 8, the input gradient, is at row block `t`. -/
theorem idx8 (hO : Ok m) (t : Fin (cfgM m hO).N) : ((cfgM m hO).win 8).index t = ![t.val, 0] := tr8 t

/-- Window 9's block at grid point `t`: row block `t`. -/
theorem tr9 (t : Fin grid0.N) : cc0_transform_9 (grid0.coords t) = ![t.val, 0] :=
  (by decide +kernel : ∀ t : Fin grid0.N, cc0_transform_9 (grid0.coords t) = ![t.val, 0]) t

/-- Window 9, the codes, is at row block `t`. -/
theorem idx9 (hO : Ok m) (t : Fin (cfgM m hO).N) : ((cfgM m hO).win 9).index t = ![t.val, 0] := tr9 t

/-- Window 10's block at grid point `t`: row block `t`. -/
theorem tr10 (t : Fin grid0.N) : cc0_transform_10 (grid0.coords t) = ![t.val, 0] :=
  (by decide +kernel : ∀ t : Fin grid0.N, cc0_transform_10 (grid0.coords t) = ![t.val, 0]) t

/-- Window 10, the scales, is at row block `t`. -/
theorem idx10 (hO : Ok m) (t : Fin (cfgM m hO).N) : ((cfgM m hO).win 10).index t = ![t.val, 0] := tr10 t

/-- Window 0's block at grid point `t`: its only block. -/
theorem tr0 (t : Fin grid0.N) : cc0_transform_0 (grid0.coords t) = ![0] :=
  (by decide +kernel : ∀ t : Fin grid0.N, cc0_transform_0 (grid0.coords t) = ![0]) t

/-- Window 0, the first weight's scales, whole, is at its only block. -/
theorem idx0 (hO : Ok m) (t : Fin (cfgM m hO).N) : ((cfgM m hO).win 0).index t = ![0] := tr0 t

/-- Where an entry of window 0's block lies in its array. -/
theorem emb0 (hO : Ok m) (t : Fin (cfgM m hO).N) (y : S17280.Idx) :
    ((((cfgM m hO).win 0).blk t).view.emb y : S17280.Idx) = y := by
  funext a
  refine Fin.ext ?_
  match a with
  | ⟨0, _⟩ =>
  show ((cfgM m hO).win 0).index t (0 : Fin 1) * 17280 + 1 * (y 0).val = (y 0).val
  rw [congrFun (idx0 m hO t) (0 : Fin 1)]
  show 0 * 17280 + 1 * (y 0).val = (y 0).val
  omega

/-- Window 0's block at an index: the first weight's scales, whole. -/
theorem blk0 (hO : Ok m) (t : Fin (cfgM m hO).N) (y : S17280.Idx) :
    (iblk m hO 0 0 t : S17280.Idx → EReal) y = (V m 0 main_v5 : S17280.Idx → EReal) y := by
  blk_simp [iblk]
  exact congrArg (V m 0 main_v5) (emb0 m hO t y)

/-- Window 1's block at grid point `t`: its only block. -/
theorem tr1 (t : Fin grid0.N) : cc0_transform_1 (grid0.coords t) = ![0] :=
  (by decide +kernel : ∀ t : Fin grid0.N, cc0_transform_1 (grid0.coords t) = ![0]) t

/-- Window 1, the second weight's scales, whole, is at its only block. -/
theorem idx1 (hO : Ok m) (t : Fin (cfgM m hO).N) : ((cfgM m hO).win 1).index t = ![0] := tr1 t

/-- Where an entry of window 1's block lies in its array. -/
theorem emb1 (hO : Ok m) (t : Fin (cfgM m hO).N) (y : S17280.Idx) :
    ((((cfgM m hO).win 1).blk t).view.emb y : S17280.Idx) = y := by
  funext a
  refine Fin.ext ?_
  match a with
  | ⟨0, _⟩ =>
  show ((cfgM m hO).win 1).index t (0 : Fin 1) * 17280 + 1 * (y 0).val = (y 0).val
  rw [congrFun (idx1 m hO t) (0 : Fin 1)]
  show 0 * 17280 + 1 * (y 0).val = (y 0).val
  omega

/-- Window 1's block at an index: the second weight's scales, whole. -/
theorem blk1 (hO : Ok m) (t : Fin (cfgM m hO).N) (y : S17280.Idx) :
    (iblk m hO 0 1 t : S17280.Idx → EReal) y = (V m 0 main_v6 : S17280.Idx → EReal) y := by
  blk_simp [iblk]
  exact congrArg (V m 0 main_v6) (emb1 m hO t y)

/-- Where an entry of window 2's block lies in its array. -/
theorem emb2 (hO : Ok m) (t : Fin (cfgM m hO).N) (r : Fin 128) (c : Fin 768) :
    ((((cfgM m hO).win 2).blk t).view.emb (ix2 r c : S128x768.Idx) : S48128x768.Idx) = ix2 ⟨t.val * 128 + r.val, by have := t_lt t; omega⟩ c := by
  funext a
  refine Fin.ext ?_
  match a with
  | ⟨0, _⟩ =>
    show ((cfgM m hO).win 2).index t (0 : Fin 2) * 128 + 1 * r.val = t.val * 128 + r.val
    rw [congrFun (idx2 m hO t) (0 : Fin 2)]
    show t.val * 128 + 1 * r.val = _
    omega
  | ⟨1, _⟩ =>
    show ((cfgM m hO).win 2).index t (1 : Fin 2) * 768 + 1 * c.val = c.val
    rw [congrFun (idx2 m hO t) (1 : Fin 2)]
    show 0 * 768 + 1 * c.val = _
    omega

/-- Window 2's block at an index: the activations' codes. -/
theorem blk2 (hO : Ok m) (t : Fin (cfgM m hO).N) (r : Fin 128) (c : Fin 768) :
    (iblk m hO 0 2 t : S128x768.Idx → EReal) (ix2 r c)
      = (m (((0 : Dev nD) : Thread nD τ).loc main_arg0) : S48128x768.Idx → EReal) (ix2 ⟨t.val * 128 + r.val, by have := t_lt t; omega⟩ c) := by
  refine Eq.trans ?_ (congrFun (V_main_arg0 m 0) _)
  blk_simp [iblk]
  exact congrArg (V m 0 main_arg0) (emb2 m hO t r c)

/-- Where an entry of window 3's block lies in its array. -/
theorem emb3 (hO : Ok m) (t : Fin (cfgM m hO).N) (r : Fin 128) (c : Fin 6) :
    ((((cfgM m hO).win 3).blk t).view.emb (ix2 r c : S128x6.Idx) : S48128x6.Idx) = ix2 ⟨t.val * 128 + r.val, by have := t_lt t; omega⟩ c := by
  funext a
  refine Fin.ext ?_
  match a with
  | ⟨0, _⟩ =>
    show ((cfgM m hO).win 3).index t (0 : Fin 2) * 128 + 1 * r.val = t.val * 128 + r.val
    rw [congrFun (idx3 m hO t) (0 : Fin 2)]
    show t.val * 128 + 1 * r.val = _
    omega
  | ⟨1, _⟩ =>
    show ((cfgM m hO).win 3).index t (1 : Fin 2) * 6 + 1 * c.val = c.val
    rw [congrFun (idx3 m hO t) (1 : Fin 2)]
    show 0 * 6 + 1 * c.val = _
    omega

/-- Window 3's block at an index: the activations' scales. -/
theorem blk3 (hO : Ok m) (t : Fin (cfgM m hO).N) (r : Fin 128) (c : Fin 6) :
    (iblk m hO 0 3 t : S128x6.Idx → EReal) (ix2 r c)
      = (m (((0 : Dev nD) : Thread nD τ).loc main_arg1) : S48128x6.Idx → EReal) (ix2 ⟨t.val * 128 + r.val, by have := t_lt t; omega⟩ c) := by
  refine Eq.trans ?_ (congrFun (V_main_arg1 m 0) _)
  blk_simp [iblk]
  exact congrArg (V m 0 main_arg1) (emb3 m hO t r c)

/-- Where an entry of window 4's block lies in its array. -/
theorem emb4 (hO : Ok m) (t : Fin (cfgM m hO).N) (r : Fin 128) (c : Fin 768) :
    ((((cfgM m hO).win 4).blk t).view.emb (ix2 r c : S128x768.Idx) : S48128x768.Idx) = ix2 ⟨t.val * 128 + r.val, by have := t_lt t; omega⟩ c := by
  funext a
  refine Fin.ext ?_
  match a with
  | ⟨0, _⟩ =>
    show ((cfgM m hO).win 4).index t (0 : Fin 2) * 128 + 1 * r.val = t.val * 128 + r.val
    rw [congrFun (idx4 m hO t) (0 : Fin 2)]
    show t.val * 128 + 1 * r.val = _
    omega
  | ⟨1, _⟩ =>
    show ((cfgM m hO).win 4).index t (1 : Fin 2) * 768 + 1 * c.val = c.val
    rw [congrFun (idx4 m hO t) (1 : Fin 2)]
    show 0 * 768 + 1 * c.val = _
    omega

/-- Window 4's block at an index: the incoming gradient's codes. -/
theorem blk4 (hO : Ok m) (t : Fin (cfgM m hO).N) (r : Fin 128) (c : Fin 768) :
    (iblk m hO 0 4 t : S128x768.Idx → EReal) (ix2 r c)
      = (m (((0 : Dev nD) : Thread nD τ).loc main_arg7) : S48128x768.Idx → EReal) (ix2 ⟨t.val * 128 + r.val, by have := t_lt t; omega⟩ c) := by
  refine Eq.trans ?_ (congrFun (V_main_arg7 m 0) _)
  blk_simp [iblk]
  exact congrArg (V m 0 main_arg7) (emb4 m hO t r c)

/-- Where an entry of window 5's block lies in its array. -/
theorem emb5 (hO : Ok m) (t : Fin (cfgM m hO).N) (r : Fin 128) (c : Fin 6) :
    ((((cfgM m hO).win 5).blk t).view.emb (ix2 r c : S128x6.Idx) : S48128x6.Idx) = ix2 ⟨t.val * 128 + r.val, by have := t_lt t; omega⟩ c := by
  funext a
  refine Fin.ext ?_
  match a with
  | ⟨0, _⟩ =>
    show ((cfgM m hO).win 5).index t (0 : Fin 2) * 128 + 1 * r.val = t.val * 128 + r.val
    rw [congrFun (idx5 m hO t) (0 : Fin 2)]
    show t.val * 128 + 1 * r.val = _
    omega
  | ⟨1, _⟩ =>
    show ((cfgM m hO).win 5).index t (1 : Fin 2) * 6 + 1 * c.val = c.val
    rw [congrFun (idx5 m hO t) (1 : Fin 2)]
    show 0 * 6 + 1 * c.val = _
    omega

/-- Window 5's block at an index: the incoming gradient's scales. -/
theorem blk5 (hO : Ok m) (t : Fin (cfgM m hO).N) (r : Fin 128) (c : Fin 6) :
    (iblk m hO 0 5 t : S128x6.Idx → EReal) (ix2 r c)
      = (m (((0 : Dev nD) : Thread nD τ).loc main_arg8) : S48128x6.Idx → EReal) (ix2 ⟨t.val * 128 + r.val, by have := t_lt t; omega⟩ c) := by
  refine Eq.trans ?_ (congrFun (V_main_arg8 m 0) _)
  blk_simp [iblk]
  exact congrArg (V m 0 main_arg8) (emb5 m hO t r c)

/-- Row block `t`'s expert. -/
abbrev ex (t : Fin grid0.N) : Nat := expert m ⟨(grid0.coords t 0).val, (grid0.coords t 0).isLt⟩

/-- There are 120 experts. -/
theorem ex_lt (h : OneExpert (ci m)) (t : Fin grid0.N) : ex m t < 120 := expert_lt m h _

/-- Window 6, the first weight's codes, is at the column block of grid point `t`'s expert. -/
theorem idx6 (h : OneExpert (ci m)) (hO : Ok m) (t : Fin (cfgM m hO).N) : ((cfgM m hO).win 6).index t = ![0, ex m t] :=
  t6_at m h (grid0.coords t)

/-- Window 7, the second weight's codes, is at the row block of grid point `t`'s expert. -/
theorem idx7 (h : OneExpert (ci m)) (hO : Ok m) (t : Fin (cfgM m hO).N) : ((cfgM m hO).win 7).index t = ![ex m t, 0] :=
  t7_at m h (grid0.coords t)

/-- Where an entry of window 6's block lies in its array. -/
theorem emb6 (h : OneExpert (ci m)) (hO : Ok m) (t : Fin (cfgM m hO).N) (c : Fin 768) (f : Fin 3072) :
    ((((cfgM m hO).win 6).blk t).view.emb (ix2 c f : S768x3072.Idx) : S768x368640.Idx) = ix2 c ⟨ex m t * 3072 + f.val, by have := ex_lt m h t; omega⟩ := by
  funext a
  refine Fin.ext ?_
  match a with
  | ⟨0, _⟩ =>
    show ((cfgM m hO).win 6).index t (0 : Fin 2) * 768 + 1 * c.val = c.val
    rw [congrFun (idx6 m h hO t) (0 : Fin 2)]
    show 0 * 768 + 1 * c.val = _
    omega
  | ⟨1, _⟩ =>
    show ((cfgM m hO).win 6).index t (1 : Fin 2) * 3072 + 1 * f.val = ex m t * 3072 + f.val
    rw [congrFun (idx6 m h hO t) (1 : Fin 2)]
    show ex m t * 3072 + 1 * f.val = _
    omega

/-- Window 6's block at an index: the first weight's codes. -/
theorem blk6 (h : OneExpert (ci m)) (hO : Ok m) (t : Fin (cfgM m hO).N) (c : Fin 768) (f : Fin 3072) :
    (iblk m hO 0 6 t : S768x3072.Idx → EReal) (ix2 c f)
      = (m (((0 : Dev nD) : Thread nD τ).loc main_arg2) : S768x368640.Idx → EReal) (ix2 c ⟨ex m t * 3072 + f.val, by have := ex_lt m h t; omega⟩) := by
  refine Eq.trans ?_ (congrFun (V_main_arg2 m 0) _)
  blk_simp [iblk]
  exact congrArg (V m 0 main_arg2) (emb6 m h hO t c f)

/-- Where an entry of window 7's block lies in its array. -/
theorem emb7 (h : OneExpert (ci m)) (hO : Ok m) (t : Fin (cfgM m hO).N) (f : Fin 3072) (c : Fin 768) :
    ((((cfgM m hO).win 7).blk t).view.emb (ix2 f c : S3072x768.Idx) : S368640x768.Idx) = ix2 ⟨ex m t * 3072 + f.val, by have := ex_lt m h t; omega⟩ c := by
  funext a
  refine Fin.ext ?_
  match a with
  | ⟨0, _⟩ =>
    show ((cfgM m hO).win 7).index t (0 : Fin 2) * 3072 + 1 * f.val = ex m t * 3072 + f.val
    rw [congrFun (idx7 m h hO t) (0 : Fin 2)]
    show ex m t * 3072 + 1 * f.val = _
    omega
  | ⟨1, _⟩ =>
    show ((cfgM m hO).win 7).index t (1 : Fin 2) * 768 + 1 * c.val = c.val
    rw [congrFun (idx7 m h hO t) (1 : Fin 2)]
    show 0 * 768 + 1 * c.val = _
    omega

/-- Window 7's block at an index: the second weight's codes. -/
theorem blk7 (h : OneExpert (ci m)) (hO : Ok m) (t : Fin (cfgM m hO).N) (f : Fin 3072) (c : Fin 768) :
    (iblk m hO 0 7 t : S3072x768.Idx → EReal) (ix2 f c)
      = (m (((0 : Dev nD) : Thread nD τ).loc main_arg4) : S368640x768.Idx → EReal) (ix2 ⟨ex m t * 3072 + f.val, by have := ex_lt m h t; omega⟩ c) := by
  refine Eq.trans ?_ (congrFun (V_main_arg4 m 0) _)
  blk_simp [iblk]
  exact congrArg (V m 0 main_arg4) (emb7 m h hO t f c)

/-- The up projection's scales, flat by expert. -/
theorem v5_at (e : Nat) (he : e < 120) (k : Fin 6) (j : Fin 24) :
    (V m 0 main_v5 : S17280.Idx → EReal) (ix1 ⟨e * 144 + k.val * 24 + j.val, by omega⟩)
      = (m (((0 : Dev nD) : Thread nD τ).loc main_arg3) : S6x2880.Idx → EReal) (ix2 k ⟨e * 24 + j.val, by omega⟩) := by
  unfold V
  unfold hostOps0 hostOps0_1 hostOps0_2
  after_reads_at
  refine congrArg (m (((0 : Dev nD) : Thread nD τ).loc main_arg3) : S6x2880.Idx → EReal) (funext fun a => Fin.ext ?_)
  match a with
  | ⟨0, _⟩ => rfl
  | ⟨1, _⟩ => show (e * 144 + k.val * 24 + j.val) / 144 * 24 + j.val = e * 24 + j.val; omega

/-- The down projection's scales, flat by expert. -/
theorem v6_at (e : Nat) (he : e < 120) (j : Fin 24) (k : Fin 6) :
    (V m 0 main_v6 : S17280.Idx → EReal) (ix1 ⟨e * 144 + j.val * 6 + k.val, by omega⟩)
      = (m (((0 : Dev nD) : Thread nD τ).loc main_arg5) : S2880x6.Idx → EReal) (ix2 ⟨e * 24 + j.val, by omega⟩ k) := by
  unfold V
  unfold hostOps0 hostOps0_1 hostOps0_2
  after_reads_at
  refine congrArg (m (((0 : Dev nD) : Thread nD τ).loc main_arg5) : S2880x6.Idx → EReal) (funext fun a => Fin.ext ?_)
  match a with
  | ⟨0, _⟩ => show (e * 144 + j.val * 6 + k.val) / 6 = e * 24 + j.val; omega
  | ⟨1, _⟩ => rfl

/-- Row block `R`'s operands off the memory at launch. -/
def inM (h : OneExpert (ci m)) (R : Fin 376) : In :=
  inA (m (((0 : Dev nD) : Thread nD τ).loc main_arg0)) (m (((0 : Dev nD) : Thread nD τ).loc main_arg1)) (m (((0 : Dev nD) : Thread nD τ).loc main_arg2))
    (m (((0 : Dev nD) : Thread nD τ).loc main_arg3)) (m (((0 : Dev nD) : Thread nD τ).loc main_arg4)) (m (((0 : Dev nD) : Thread nD τ).loc main_arg5))
    (m (((0 : Dev nD) : Thread nD τ).loc main_arg7)) (m (((0 : Dev nD) : Thread nD τ).loc main_arg8)) (expert m R) (expert_lt m h R) R

/-- The blocks of grid point `t` are row block `t`'s operands. -/
theorem inB_eq (h : OneExpert (ci m)) (hO : Ok m) (t : Fin (cfgM m hO).N) :
    Body.inB (ex m t) (ex_lt m h t) (iblk m hO 0 0 t) (iblk m hO 0 1 t) (iblk m hO 0 2 t) (iblk m hO 0 3 t) (iblk m hO 0 4 t) (iblk m hO 0 5 t)
      (iblk m hO 0 6 t) (iblk m hO 0 7 t) = inM m h ⟨t.val, t_lt t⟩ := by
  have e : ex m t = expert m ⟨t.val, t_lt t⟩ := congrArg (expert m) (Fin.ext (crd t))
  apply In.ext
  · funext r c; exact blk2 m hO t r c
  · funext r c; exact blk3 m hO t r c
  · funext c f
    refine (blk6 m h hO t c f).trans ?_
    refine congrArg (fun z => (m (((0 : Dev nD) : Thread nD τ).loc main_arg2) : S768x368640.Idx → EReal) (ix2 c z)) (Fin.ext ?_)
    show ex m t * 3072 + f.val = expert m ⟨t.val, t_lt t⟩ * 3072 + f.val
    rw [e]
  · funext k j
    refine (blk0 m hO t _).trans ((v5_at m _ (ex_lt m h t) k j).trans ?_)
    refine congrArg (fun z => (m (((0 : Dev nD) : Thread nD τ).loc main_arg3) : S6x2880.Idx → EReal) (ix2 k z)) (Fin.ext ?_)
    show ex m t * 24 + j.val = expert m ⟨t.val, t_lt t⟩ * 24 + j.val
    rw [e]
  · funext f c
    refine (blk7 m h hO t f c).trans ?_
    refine congrArg (fun z => (m (((0 : Dev nD) : Thread nD τ).loc main_arg4) : S368640x768.Idx → EReal) (ix2 z c)) (Fin.ext ?_)
    show ex m t * 3072 + f.val = expert m ⟨t.val, t_lt t⟩ * 3072 + f.val
    rw [e]
  · funext j k
    refine (blk1 m hO t _).trans ((v6_at m _ (ex_lt m h t) j k).trans ?_)
    refine congrArg (fun z => (m (((0 : Dev nD) : Thread nD τ).loc main_arg5) : S2880x6.Idx → EReal) (ix2 z k)) (Fin.ext ?_)
    show ex m t * 24 + j.val = expert m ⟨t.val, t_lt t⟩ * 24 + j.val
    rw [e]
  · funext r c; exact blk4 m hO t r c
  · funext r c; exact blk5 m hO t r c

/-- The table's word grid point `t`'s body reads is its expert. -/
theorem word (h : OneExpert (ci m)) (t : Fin grid0.N) :
    (tbM0_0.view.readAt (Elt Ideal) (Rect.unit (s := S376) (k0_off1 (grid0.coords t)) S1.size (k0_off1_inb (grid0.coords t))).toLoadRect (tbl m 0)
      (Shape.Idx.first (numel1_S1.symm ▸ Nat.one_pos)) : BitVec 32).toNat = ex m t := by
  have hlt := ex_lt m h t
  refine (congrArg BitVec.toNat (word_at m h (grid0.coords t) _ ?_)).trans ?_
  · exact (Nat.add_zero _).trans (off1 _)
  · rw [BitVec.toNat_ofNat, Nat.mod_eq_of_lt (by show ex m t < _; omega)]

end Cert.KernelIdeal.Gen.Arr
-- ==== Proof.KArr.lean ====
/- The three arrays the kernel's run leaves. -/
module

public import proofs.«01_k».proof.Proof.KBlk
public import proofs.«01_k».proof.Proof.InM
public import proofs.«01_k».proof.Proof.TblKernelIdeal
public import Idealize.ShloMosaic.Lib.Pipeline.Value
public import Idealize.ShloMosaic.Lib.Pipeline.ValueKit.Geometry
public import Idealize.ShloMosaic.Lib.StableHlo.ReadAt

@[expose] public section

set_option maxRecDepth 65536
set_option maxHeartbeats 2000000

noncomputable section

namespace Cert.KernelIdeal.Gen.Arr

open Cert.KernelIdeal Cert.KernelIdeal.Gen Cert.KernelIdeal.Gen.Tbl Idealize.ShloMosaic Idealize.ShloMosaic.TcCoe Idealize.SL.Sem Cert.Moe
open Idealize.ShloMosaic.Pipeline (Dat)

variable (m : (ℓ : Loc nD τ sig) → Buf (Elt Ideal) ℓ)

/-- The grid's blocks cover result 1. -/
theorem cov8 (hO : Ok m) : ((cfgM m hO).win 8).Covers := by
  refine of_decide_eq_true ?_
  sl_kernel_rfl

/-- Result 1 after the run. -/
theorem arr8 (h : OneExpert (ci m)) (hO : Ok m) (hH : Hyps m hO) : (dats m hO hH 0 0).arrAt 8 (cfgM m hO).N
    = fun y : S48128x768.Idx => ((inM m h ⟨(y (0 : Fin 2)).val / 128, by have : (y (0 : Fin 2)).val < 48128 := (y (0 : Fin 2)).isLt; omega⟩).DX ⟨(y (0 : Fin 2)).val % 128, by omega⟩ (y (1 : Fin 2)) : EReal) := by
  refine (dats m hO hH 0 0).arrAt_eq_of_covers 8 _ (cov8 m hO) fun t hf (y : S128x768.Idx) => ?_
  blk_simp
  rw [after0_8]
  obtain ⟨r, c, rfl⟩ : ∃ (r : Fin 128) (c : Fin 768), y = ix2 r c := ⟨y 0, y 1, by funext a; fin_cases a <;> rfl⟩
  refine (Body.out8_at 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (iblk m hO 0 0 t) (iblk m hO 0 1 t) (iblk m hO 0 2 t) (iblk m hO 0 3 t) (iblk m hO 0 4 t) (iblk m hO 0 5 t) (iblk m hO 0 6 t) (iblk m hO 0 7 t) (tbl m 0) (Hyps.c0 hH 0 t) (ex m t) (ex_lt m h t) (word m h t) r c).trans ?_
  rw [inB_eq m h hO t]
  have app : ∀ {R R' : Fin 376} {r r' : Fin 128} {c c' : Fin 768}, R.val = R'.val → r.val = r'.val → c.val = c'.val →
      (inM m h R).DX r c = (inM m h R').DX r' c' := by
    intro R R' r r' c c' h1 h2 h3
    rw [Fin.ext h1, Fin.ext h2, Fin.ext h3]
  have h0 := congrFun (idx8 m hO t) (0 : Fin 2)
  have h1 := congrFun (idx8 m hO t) (1 : Fin 2)
  refine app ?_ ?_ ?_
  · show t.val = (((cfgM m hO).win 8).index t (0 : Fin 2) * 128 + r.val) / 128
    rw [h0]; show t.val = (t.val * 128 + r.val) / 128; omega
  · show r.val = (((cfgM m hO).win 8).index t (0 : Fin 2) * 128 + r.val) % 128
    rw [h0]; show _ = (t.val * 128 + r.val) % 128; omega
  · show c.val = ((cfgM m hO).win 8).index t (1 : Fin 2) * 768 + 1 * c.val
    rw [h1]; show _ = 0 * 768 + 1 * c.val; omega

/-- The grid's blocks cover result 2. -/
theorem cov9 (hO : Ok m) : ((cfgM m hO).win 9).Covers := by
  refine of_decide_eq_true ?_
  sl_kernel_rfl

/-- Result 2 after the run. -/
theorem arr9 (h : OneExpert (ci m)) (hO : Ok m) (hH : Hyps m hO) : (dats m hO hH 0 0).arrAt 9 (cfgM m hO).N
    = fun y : S48128x3072.Idx => ((inM m h ⟨(y (0 : Fin 2)).val / 128, by have : (y (0 : Fin 2)).val < 48128 := (y (0 : Fin 2)).isLt; omega⟩).C ⟨(y (0 : Fin 2)).val % 128, by omega⟩ (y (1 : Fin 2)) : EReal) := by
  refine (dats m hO hH 0 0).arrAt_eq_of_covers 9 _ (cov9 m hO) fun t hf (y : S128x3072.Idx) => ?_
  blk_simp
  rw [after0_9]
  obtain ⟨r, c, rfl⟩ : ∃ (r : Fin 128) (c : Fin 3072), y = ix2 r c := ⟨y 0, y 1, by funext a; fin_cases a <;> rfl⟩
  refine (Body.out9_at 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (iblk m hO 0 0 t) (iblk m hO 0 1 t) (iblk m hO 0 2 t) (iblk m hO 0 3 t) (iblk m hO 0 4 t) (iblk m hO 0 5 t) (iblk m hO 0 6 t) (iblk m hO 0 7 t) (tbl m 0) (Hyps.c0 hH 0 t) (ex m t) (ex_lt m h t) (word m h t) r c).trans ?_
  rw [inB_eq m h hO t]
  have app : ∀ {R R' : Fin 376} {r r' : Fin 128} {c c' : Fin 3072}, R.val = R'.val → r.val = r'.val → c.val = c'.val →
      (inM m h R).C r c = (inM m h R').C r' c' := by
    intro R R' r r' c c' h1 h2 h3
    rw [Fin.ext h1, Fin.ext h2, Fin.ext h3]
  have h0 := congrFun (idx9 m hO t) (0 : Fin 2)
  have h1 := congrFun (idx9 m hO t) (1 : Fin 2)
  refine app ?_ ?_ ?_
  · show t.val = (((cfgM m hO).win 9).index t (0 : Fin 2) * 128 + r.val) / 128
    rw [h0]; show t.val = (t.val * 128 + r.val) / 128; omega
  · show r.val = (((cfgM m hO).win 9).index t (0 : Fin 2) * 128 + r.val) % 128
    rw [h0]; show _ = (t.val * 128 + r.val) % 128; omega
  · show c.val = ((cfgM m hO).win 9).index t (1 : Fin 2) * 3072 + 1 * c.val
    rw [h1]; show _ = 0 * 3072 + 1 * c.val; omega

/-- The grid's blocks cover result 3. -/
theorem cov10 (hO : Ok m) : ((cfgM m hO).win 10).Covers := by
  refine of_decide_eq_true ?_
  sl_kernel_rfl

/-- Result 3 after the run. -/
theorem arr10 (h : OneExpert (ci m)) (hO : Ok m) (hH : Hyps m hO) : (dats m hO hH 0 0).arrAt 10 (cfgM m hO).N
    = fun y : S48128x24.Idx => ((inM m h ⟨(y (0 : Fin 2)).val / 128, by have : (y (0 : Fin 2)).val < 48128 := (y (0 : Fin 2)).isLt; omega⟩).S ⟨(y (0 : Fin 2)).val % 128, by omega⟩ (y (1 : Fin 2)) : EReal) := by
  refine (dats m hO hH 0 0).arrAt_eq_of_covers 10 _ (cov10 m hO) fun t hf (y : S128x24.Idx) => ?_
  blk_simp
  rw [after0_10]
  obtain ⟨r, c, rfl⟩ : ∃ (r : Fin 128) (c : Fin 24), y = ix2 r c := ⟨y 0, y 1, by funext a; fin_cases a <;> rfl⟩
  refine (Body.out10_at 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (iblk m hO 0 0 t) (iblk m hO 0 1 t) (iblk m hO 0 2 t) (iblk m hO 0 3 t) (iblk m hO 0 4 t) (iblk m hO 0 5 t) (iblk m hO 0 6 t) (iblk m hO 0 7 t) (tbl m 0) (Hyps.c0 hH 0 t) (ex m t) (ex_lt m h t) (word m h t) r c).trans ?_
  rw [inB_eq m h hO t]
  have app : ∀ {R R' : Fin 376} {r r' : Fin 128} {c c' : Fin 24}, R.val = R'.val → r.val = r'.val → c.val = c'.val →
      (inM m h R).S r c = (inM m h R').S r' c' := by
    intro R R' r r' c c' h1 h2 h3
    rw [Fin.ext h1, Fin.ext h2, Fin.ext h3]
  have h0 := congrFun (idx10 m hO t) (0 : Fin 2)
  have h1 := congrFun (idx10 m hO t) (1 : Fin 2)
  refine app ?_ ?_ ?_
  · show t.val = (((cfgM m hO).win 10).index t (0 : Fin 2) * 128 + r.val) / 128
    rw [h0]; show t.val = (t.val * 128 + r.val) / 128; omega
  · show r.val = (((cfgM m hO).win 10).index t (0 : Fin 2) * 128 + r.val) % 128
    rw [h0]; show _ = (t.val * 128 + r.val) % 128; omega
  · show c.val = ((cfgM m hO).win 10).index t (1 : Fin 2) * 24 + 1 * c.val
    rw [h1]; show _ = 0 * 24 + 1 * c.val; omega

end Cert.KernelIdeal.Gen.Arr
-- ==== Proof.RefPoint.lean ====
/- The reference's payloads at an index, at exact arithmetic: the row block's mathematics (`Cert.Moe.In`). -/
module

public import proofs.«01_k».proof.Proof.Spec
public import proofs.«01_k».proof.Proof.Gen.ReferenceIdeal.Skeleton

@[expose] public section

set_option maxRecDepth 65536

noncomputable section

namespace Cert.ReferenceIdeal.Gen.Body

open Idealize.ShloMosaic Cert.ReferenceIdeal Cert.ReferenceIdeal.Gen Cert.Moe

/-- The dequantised activations at an index. -/
theorem pay7_at (x : FVec Ideal S376x128x768 .fp8e4m3) (s : FVec Ideal S376x128x6 .f32) (R : Fin 376) (r : Fin 128) (c : Fin 768) :
    (k0_pay7 (F := Ideal) x s (ix3 R r c) : EReal) = (x (ix3 R r c) : EReal) * (s (ix3 R r (t6 c)) : EReal) := by
  pointwise [k0_pay7]
  rfl

/-- The dequantised incoming gradient at an index. -/
theorem pay8_at (x : FVec Ideal S376x128x768 .fp8e5m2) (s : FVec Ideal S376x128x6 .f32) (R : Fin 376) (r : Fin 128) (c : Fin 768) :
    (k0_pay8 (F := Ideal) x s (ix3 R r c) : EReal) = (x (ix3 R r c) : EReal) * (s (ix3 R r (t6 c)) : EReal) := by
  pointwise [k0_pay8]
  rfl

/-- The dequantised first weight at an index. -/
theorem pay9_at (x : FVec Ideal S376x768x3072 .fp8e4m3) (s : FVec Ideal S376x6x24 .f32) (R : Fin 376) (r : Fin 768) (c : Fin 3072) :
    (k0_pay9 (F := Ideal) x s (ix3 R r c) : EReal) = (x (ix3 R r c) : EReal) * (s (ix3 R (t6 r) (t24 c)) : EReal) := by
  pointwise [k0_pay9]
  rfl

/-- The gradient of the pre-activations at an index. -/
theorem pay11_at (v10 v21 : FVec Ideal S376x128x768 .bf16) (v32 : FVec Ideal S376x768x3072 .bf16) (x4 : FVec Ideal S376x3072x768 .fp8e4m3)
    (s : FVec Ideal S376x24x6 .f32) (R : Fin 376) (r : Fin 128) (j : Fin 24) (l : Fin 128) :
    (k0_pay11 (F := Ideal) v10 v21 v32 (k0_pay10 (F := Ideal) x4) s (ix4 R r j l) : EReal)
      = gelu' (∑ c : Fin 768, (v10 (ix3 R r c) : EReal) * (v32 (ix3 R c (at24 j l)) : EReal))
        (∑ c : Fin 768, (v21 (ix3 R r c) : EReal) * ((x4 (ix3 R (at24 j l) c) : EReal) * (s (ix3 R j (t6 c)) : EReal))) := by
  pointwise [k0_pay11, k0_pay10]
  rfl

/-- The greatest magnitudes at an index. -/
theorem red_at (g : FVec Ideal S376x128x24x128 .f32) (R : Fin 376) (r : Fin 128) (j : Fin 24) :
    (multiReduction .maximumf [3] S376x128x24 (absf g) 0xFF800000#32 reduces_S376x128x24x128_S376x128x24 (.inl rfl) rfl (ix3 R r j) : EReal)
      = amax fun l => g (ix4 R r j l) := by
  pointwise []
  rfl

/-- The exponents at an index, of the greatest magnitudes `M`. -/
theorem expo_at (M : FVec Ideal S376x128x24 .f32) (R : Fin 376) (r : Fin 128) (j : Fin 24) :
    (k0_pay1 (F := Ideal) (cmpf .oeq M (broadcast S376x128x24 (Scalar.ofBits .f32 0x00000000#32)))
      (log (mulf M (broadcast S376x128x24 (Scalar.ofBits .f32 0x37924925#32)))) (ix3 R r j) : EReal) = expo (M (ix3 R r j)) := by
  pointwise [k0_pay1]
  rfl

/-- The codes at an index. -/
theorem pay2_at (v74 : FVec Ideal S376x128x24x128 .f32) (v78 : IVec S376x128x24 1) (v81 : FVec Ideal S376x128x24 .f32)
    (R : Fin 376) (r : Fin 128) (j : Fin 24) (l : Fin 128) :
    (k0_pay2 (F := Ideal) v74 v78 v81 (ix4 R r j l) : EReal) = code (v74 (ix4 R r j l)) (k0_pay1 (F := Ideal) v78 v81 (ix3 R r j)) := by
  pointwise [k0_pay2]
  rfl

/-- The stored codes at an index. -/
theorem pay5_at (v74 : FVec Ideal S376x128x24x128 .f32) (v78 : IVec S376x128x24 1) (v81 : FVec Ideal S376x128x24 .f32) (y : Fin 48128) (f : Fin 3072) :
    k0_pay5 (F := Ideal) v74 v78 v81 (ix2 y f) = k0_pay2 (F := Ideal) v74 v78 v81 (ix4 ⟨y.val / 128, by omega⟩ ⟨y.val % 128, by omega⟩ (t24 f) ⟨f.val % 128, by omega⟩) := by
  pointwise [k0_pay5]
  rfl

/-- The stored scales at an index. -/
theorem pay6_at (v78 : IVec S376x128x24 1) (v81 : FVec Ideal S376x128x24 .f32) (y : Fin 48128) (j : Fin 24) :
    k0_pay6 (F := Ideal) v78 v81 (ix2 y j) = FloatOps.exp2 (k0_pay1 (F := Ideal) v78 v81 (ix3 ⟨y.val / 128, by omega⟩ ⟨y.val % 128, by omega⟩ j)) := by
  pointwise [k0_pay6, k0_pay3]

/-- The stored input gradient at an index. -/
theorem pay4_at (v32 : FVec Ideal S376x768x3072 .bf16) (v74 : FVec Ideal S376x128x24x128 .f32) (v78 : IVec S376x128x24 1)
    (v81 : FVec Ideal S376x128x24 .f32) (y : Fin 48128) (c : Fin 768) :
    (k0_pay4 (F := Ideal) v32 v74 v78 v81 (ix2 y c) : EReal)
      = ∑ f : Fin 3072, (k0_pay2 (F := Ideal) v74 v78 v81 (ix4 ⟨y.val / 128, by omega⟩ ⟨y.val % 128, by omega⟩ (t24 f) ⟨f.val % 128, by omega⟩) : EReal)
          * (FloatOps.exp2 (k0_pay1 (F := Ideal) v78 v81 (ix3 ⟨y.val / 128, by omega⟩ ⟨y.val % 128, by omega⟩ (t24 f))) : EReal)
          * (v32 (ix3 ⟨y.val / 128, by omega⟩ c f) : EReal) := by
  pointwise [k0_pay4, k0_pay3]
  rfl

section Block

variable (x0 : FVec Ideal S376x128x768 .fp8e4m3) (x1 : FVec Ideal S376x128x6 .f32) (x2 : FVec Ideal S376x768x3072 .fp8e4m3)
  (x3 : FVec Ideal S376x6x24 .f32) (x4 : FVec Ideal S376x3072x768 .fp8e4m3) (x5 : FVec Ideal S376x24x6 .f32)
  (x6 : FVec Ideal S376x128x768 .fp8e5m2) (x7 : FVec Ideal S376x128x6 .f32)

/-- Row block `R`'s operands in the reference's arrays. -/
def inR (R : Fin 376) : In where
  xq r c := x0 (ix3 R r c)
  xs r b := x1 (ix3 R r b)
  w1q c f := x2 (ix3 R c f)
  w1s k j := x3 (ix3 R k j)
  w2q f c := x4 (ix3 R f c)
  w2s j k := x5 (ix3 R j k)
  dyq r c := x6 (ix3 R r c)
  dys r b := x7 (ix3 R r b)

/-- The gradient of the pre-activations, over its operands. -/
abbrev gR : FVec Ideal S376x128x24x128 .f32 := k0_pay11 (F := Ideal) (k0_pay7 (F := Ideal) x0 x1) (k0_pay8 (F := Ideal) x6 x7) (k0_pay9 (F := Ideal) x2 x3) (k0_pay10 (F := Ideal) x4) x5

/-- Column `l` of tile `j` lies in tile `j`. -/
theorem t24_at24 (j : Fin 24) (l : Fin 128) : t24 (at24 j l) = j := by
  apply Fin.ext; show (j.val * 128 + l.val) / 128 = j.val; omega

/-- A column is the column of its tile at its remainder. -/
theorem at24_t24 (f : Fin 3072) : at24 (t24 f) ⟨f.val % 128, by omega⟩ = f := by
  apply Fin.ext; show f.val / 128 * 128 + f.val % 128 = f.val; omega

/-- The gradient of the pre-activations, tile by tile. -/
theorem gR_at (R : Fin 376) (r : Fin 128) (j : Fin 24) (l : Fin 128) :
    (gR x0 x1 x2 x3 x4 x5 x6 x7 (ix4 R r j l) : EReal) = (inR x0 x1 x2 x3 x4 x5 x6 x7 R).G r (at24 j l) := by
  unfold gR
  rw [pay11_at]
  simp only [pay7_at, pay8_at, pay9_at]
  unfold In.G In.X In.W1 In.DY In.W2 inR
  simp only [t24_at24]

/-- A tile's exponent. -/
theorem eR_at (R : Fin 376) (r : Fin 128) (j : Fin 24) :
    (k0_pay1 (F := Ideal) (k0_pay13 (F := Ideal) (k0_pay7 (F := Ideal) x0 x1) (k0_pay8 (F := Ideal) x6 x7) (k0_pay9 (F := Ideal) x2 x3) (k0_pay10 (F := Ideal) x4) x5)
      (k0_pay14 (F := Ideal) (k0_pay7 (F := Ideal) x0 x1) (k0_pay8 (F := Ideal) x6 x7) (k0_pay9 (F := Ideal) x2 x3) (k0_pay10 (F := Ideal) x4) x5) (ix3 R r j) : EReal) = (inR x0 x1 x2 x3 x4 x5 x6 x7 R).E r j := by
  have h := expo_at (k0_pay12 (F := Ideal) (k0_pay7 (F := Ideal) x0 x1) (k0_pay8 (F := Ideal) x6 x7) (k0_pay9 (F := Ideal) x2 x3) (k0_pay10 (F := Ideal) x4) x5) R r j
  unfold k0_pay13 k0_pay14
  refine h.trans ?_
  unfold k0_pay12
  dsimp only
  rw [red_at]
  unfold In.E
  simp only [gR_at]

/-- The reference's codes are the row block's. -/
theorem codes_at (y : Fin 48128) (f : Fin 3072) :
    (k0_pay5 (F := Ideal) (gR x0 x1 x2 x3 x4 x5 x6 x7) (k0_pay13 (F := Ideal) (k0_pay7 (F := Ideal) x0 x1) (k0_pay8 (F := Ideal) x6 x7) (k0_pay9 (F := Ideal) x2 x3) (k0_pay10 (F := Ideal) x4) x5)
      (k0_pay14 (F := Ideal) (k0_pay7 (F := Ideal) x0 x1) (k0_pay8 (F := Ideal) x6 x7) (k0_pay9 (F := Ideal) x2 x3) (k0_pay10 (F := Ideal) x4) x5) (ix2 y f) : EReal)
      = (inR x0 x1 x2 x3 x4 x5 x6 x7 ⟨y.val / 128, by omega⟩).C ⟨y.val % 128, by omega⟩ f := by
  rw [pay5_at, pay2_at, gR_at, eR_at, at24_t24]
  rfl

/-- The reference's scales are the row block's. -/
theorem scales_at (y : Fin 48128) (j : Fin 24) :
    (k0_pay6 (F := Ideal) (k0_pay13 (F := Ideal) (k0_pay7 (F := Ideal) x0 x1) (k0_pay8 (F := Ideal) x6 x7) (k0_pay9 (F := Ideal) x2 x3) (k0_pay10 (F := Ideal) x4) x5)
      (k0_pay14 (F := Ideal) (k0_pay7 (F := Ideal) x0 x1) (k0_pay8 (F := Ideal) x6 x7) (k0_pay9 (F := Ideal) x2 x3) (k0_pay10 (F := Ideal) x4) x5) (ix2 y j) : EReal)
      = (inR x0 x1 x2 x3 x4 x5 x6 x7 ⟨y.val / 128, by omega⟩).S ⟨y.val % 128, by omega⟩ j := by
  rw [pay6_at, eR_at]
  rfl

/-- The reference's input gradient is the row block's. -/
theorem dx_at (y : Fin 48128) (c : Fin 768) :
    (k0_pay4 (F := Ideal) (k0_pay9 (F := Ideal) x2 x3) (gR x0 x1 x2 x3 x4 x5 x6 x7) (k0_pay13 (F := Ideal) (k0_pay7 (F := Ideal) x0 x1) (k0_pay8 (F := Ideal) x6 x7) (k0_pay9 (F := Ideal) x2 x3) (k0_pay10 (F := Ideal) x4) x5)
      (k0_pay14 (F := Ideal) (k0_pay7 (F := Ideal) x0 x1) (k0_pay8 (F := Ideal) x6 x7) (k0_pay9 (F := Ideal) x2 x3) (k0_pay10 (F := Ideal) x4) x5) (ix2 y c) : EReal)
      = (inR x0 x1 x2 x3 x4 x5 x6 x7 ⟨y.val / 128, by omega⟩).DX ⟨y.val % 128, by omega⟩ c := by
  rw [pay4_at]
  simp only [pay2_at, gR_at, eR_at, at24_t24, pay9_at]
  rfl

end Block

end Cert.ReferenceIdeal.Gen.Body
-- ==== Proof.RefRun.lean ====
/- The reference's run with each output array named, and each at an index. -/
module

public import proofs.«01_k».proof.Proof.Gen.ReferenceIdeal.Frame
public import proofs.«01_k».proof.Proof.RefPoint
public import Idealize.ShloMosaic.Lib.Pipeline.Value
public import Idealize.ShloMosaic.Lib.Pipeline.ValueKit.Geometry
public import Idealize.ShloMosaic.Lib.StableHlo.ReadAt

@[expose] public section

set_option maxRecDepth 65536

noncomputable section

namespace Cert.ReferenceIdeal.Gen.Run

open Cert.ReferenceIdeal Cert.ReferenceIdeal.Gen Idealize.ShloMosaic Idealize.ShloMosaic.TcCoe Idealize.SL.Sem Cert.Moe
open Idealize.ShloMosaic.Pipeline (Dat)

section
variable {F : FTy → Type} [FloatOps F]
variable (m : (ℓ : Loc nD τ sig) → Buf (Elt F) ℓ) (ρ : Dev nD → PrngReg)

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v14_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v14_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v14_2) = (dats m 0 c).arrAt 10 cfg0.N :=
  (h c).1 10

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v14_0) = (dats m 0 c).arrAt 8 cfg0.N
      ∧ r.2.mem ((c : Thread nD τ).loc main_v14_1) = (dats m 0 c).arrAt 9 cfg0.N
      ∧ r.2.mem ((c : Thread nD τ).loc main_v14_2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end

variable (m : (ℓ : Loc nD τ sig) → Buf (Elt Ideal) ℓ)

/-- Row block `R`'s operands as the region finds them. -/
def inV (R : Fin 376) : In :=
  Body.inR (V m 0 main_v10) (V m 0 main_v11) (V m 0 main_v3) (V m 0 main_v8) (V m 0 main_v6) (V m 0 main_v9) (V m 0 main_v12) (V m 0 main_v13) R

section Out
variable (x0 : Vec Ideal S376x128x768 .fp8e4m3) (x1 : Vec Ideal S376x128x6 .f32) (x2 : Vec Ideal S376x768x3072 .fp8e4m3) (x3 : Vec Ideal S376x6x24 .f32)
  (x4 : Vec Ideal S376x3072x768 .fp8e4m3) (x5 : Vec Ideal S376x24x6 .f32) (x6 : Vec Ideal S376x128x768 .fp8e5m2) (x7 : Vec Ideal S376x128x6 .f32)

/-- A load through a whole rectangle reads its block. -/
theorem ld_whole {S : Shape} {e : EltTy} {off : Fin S.rank → Nat} (h : ∀ a, off a = 0) (inb : ∀ a, off a + S.size a ≤ S.size a) (x : Vec Ideal S e) :
    View.ld (Val := Elt Ideal) x (Rect.unit off S.size inb) = x := by
  funext y
  show x _ = x y
  congr 1
  funext a; apply Fin.ext; show off a + 1 * (y a).val = (y a).val; rw [h a]; omega

/-- The body reads operand 0 whole. -/
theorem ld0 (x : Vec Ideal S376x128x768 .fp8e4m3) : View.ld (Val := Elt Ideal) x r0_0 = x := ld_whole (by intro a; fin_cases a <;> rfl) _ x
/-- The body reads operand 1 whole. -/
theorem ld1 (x : Vec Ideal S376x128x6 .f32) : View.ld (Val := Elt Ideal) x r0_1 = x := ld_whole (by intro a; fin_cases a <;> rfl) _ x
/-- The body reads operand 2 whole. -/
theorem ld2 (x : Vec Ideal S376x768x3072 .fp8e4m3) : View.ld (Val := Elt Ideal) x r0_2 = x := ld_whole (by intro a; fin_cases a <;> rfl) _ x
/-- The body reads operand 3 whole. -/
theorem ld3 (x : Vec Ideal S376x6x24 .f32) : View.ld (Val := Elt Ideal) x r0_3 = x := ld_whole (by intro a; fin_cases a <;> rfl) _ x
/-- The body reads operand 4 whole. -/
theorem ld4 (x : Vec Ideal S376x3072x768 .fp8e4m3) : View.ld (Val := Elt Ideal) x r0_4 = x := ld_whole (by intro a; fin_cases a <;> rfl) _ x
/-- The body reads operand 5 whole. -/
theorem ld5 (x : Vec Ideal S376x24x6 .f32) : View.ld (Val := Elt Ideal) x r0_5 = x := ld_whole (by intro a; fin_cases a <;> rfl) _ x
/-- The body reads operand 6 whole. -/
theorem ld6 (x : Vec Ideal S376x128x768 .fp8e5m2) : View.ld (Val := Elt Ideal) x r0_0 = x := ld_whole (by intro a; fin_cases a <;> rfl) _ x

/-- Output 1 of the body at an index: the input gradient of row block `y / 128`. -/
theorem outR8 (y : Fin 48128) (d : Fin 768) : (out0_8 x0 x1 x2 x3 x4 x5 x6 x7 (ix2 y d) : EReal)
    = (Body.inR x0 x1 x2 x3 x4 x5 x6 x7 ⟨y.val / 128, by omega⟩).DX ⟨y.val % 128, by omega⟩ d := by
  unfold_out out0_8
  refine (congrFun (View.canon_unit_zero (by funext a; fin_cases a <;> rfl) _ _) _).trans ?_
  simp only [ld0, ld1, ld2, ld3, ld4, ld5, ld6]
  exact Body.dx_at x0 x1 x2 x3 x4 x5 x6 x7 y d

/-- Output 2 of the body at an index: the codes of row block `y / 128`. -/
theorem outR9 (y : Fin 48128) (d : Fin 3072) : (out0_9 x0 x1 x2 x3 x4 x5 x6 x7 (ix2 y d) : EReal)
    = (Body.inR x0 x1 x2 x3 x4 x5 x6 x7 ⟨y.val / 128, by omega⟩).C ⟨y.val % 128, by omega⟩ d := by
  unfold_out out0_9
  refine (congrFun (View.canon_unit_zero (by funext a; fin_cases a <;> rfl) _ _) _).trans ?_
  simp only [ld0, ld1, ld2, ld3, ld4, ld5, ld6]
  exact Body.codes_at x0 x1 x2 x3 x4 x5 x6 x7 y d

/-- Output 3 of the body at an index: the scales of row block `y / 128`. -/
theorem outR10 (y : Fin 48128) (d : Fin 24) : (out0_10 x0 x1 x2 x3 x4 x5 x6 x7 (ix2 y d) : EReal)
    = (Body.inR x0 x1 x2 x3 x4 x5 x6 x7 ⟨y.val / 128, by omega⟩).S ⟨y.val % 128, by omega⟩ d := by
  unfold_out out0_10
  refine (congrFun (View.canon_unit_zero (by funext a; fin_cases a <;> rfl) _ _) _).trans ?_
  simp only [ld0, ld1, ld2, ld3, ld4, ld5, ld6]
  exact Body.scales_at x0 x1 x2 x3 x4 x5 x6 x7 y d

end Out

/-- Window 0 is its whole array. -/
theorem idx0 : ∀ t : Fin cfg0.N, win0_0.index t = ![0, 0, 0] := (by decide +kernel : ∀ t : Fin grid0.N, win0_0.index t = ![0, 0, 0])
/-- Window 1 is its whole array. -/
theorem idx1 : ∀ t : Fin cfg0.N, win0_1.index t = ![0, 0, 0] := (by decide +kernel : ∀ t : Fin grid0.N, win0_1.index t = ![0, 0, 0])
/-- Window 2 is its whole array. -/
theorem idx2 : ∀ t : Fin cfg0.N, win0_2.index t = ![0, 0, 0] := (by decide +kernel : ∀ t : Fin grid0.N, win0_2.index t = ![0, 0, 0])
/-- Window 3 is its whole array. -/
theorem idx3 : ∀ t : Fin cfg0.N, win0_3.index t = ![0, 0, 0] := (by decide +kernel : ∀ t : Fin grid0.N, win0_3.index t = ![0, 0, 0])
/-- Window 4 is its whole array. -/
theorem idx4 : ∀ t : Fin cfg0.N, win0_4.index t = ![0, 0, 0] := (by decide +kernel : ∀ t : Fin grid0.N, win0_4.index t = ![0, 0, 0])
/-- Window 5 is its whole array. -/
theorem idx5 : ∀ t : Fin cfg0.N, win0_5.index t = ![0, 0, 0] := (by decide +kernel : ∀ t : Fin grid0.N, win0_5.index t = ![0, 0, 0])
/-- Window 6 is its whole array. -/
theorem idx6 : ∀ t : Fin cfg0.N, win0_6.index t = ![0, 0, 0] := (by decide +kernel : ∀ t : Fin grid0.N, win0_6.index t = ![0, 0, 0])
/-- Window 7 is its whole array. -/
theorem idx7 : ∀ t : Fin cfg0.N, win0_7.index t = ![0, 0, 0] := (by decide +kernel : ∀ t : Fin grid0.N, win0_7.index t = ![0, 0, 0])
/-- Window 8 is its whole array. -/
theorem idx8 : ∀ t : Fin cfg0.N, win0_8.index t = ![0, 0] := (by decide +kernel : ∀ t : Fin grid0.N, win0_8.index t = ![0, 0])
/-- Window 9 is its whole array. -/
theorem idx9 : ∀ t : Fin cfg0.N, win0_9.index t = ![0, 0] := (by decide +kernel : ∀ t : Fin grid0.N, win0_9.index t = ![0, 0])
/-- Window 10 is its whole array. -/
theorem idx10 : ∀ t : Fin cfg0.N, win0_10.index t = ![0, 0] := (by decide +kernel : ∀ t : Fin grid0.N, win0_10.index t = ![0, 0])

/-- Window 0's block is its array: the activations' codes. -/
theorem blk0 (t : Fin cfg0.N) : iblk m 0 0 t = V m 0 main_v10 := by
  funext y
  blk_simp [iblk]
  congr 1
  blk_ext [idx0]

/-- Window 1's block is its array: the activations' scales. -/
theorem blk1 (t : Fin cfg0.N) : iblk m 0 1 t = V m 0 main_v11 := by
  funext y
  blk_simp [iblk]
  congr 1
  blk_ext [idx1]

/-- Window 2's block is its array: the gathered first weight's codes. -/
theorem blk2 (t : Fin cfg0.N) : iblk m 0 2 t = V m 0 main_v3 := by
  funext y
  blk_simp [iblk]
  congr 1
  blk_ext [idx2]

/-- Window 3's block is its array: the gathered first weight's scales. -/
theorem blk3 (t : Fin cfg0.N) : iblk m 0 3 t = V m 0 main_v8 := by
  funext y
  blk_simp [iblk]
  congr 1
  blk_ext [idx3]

/-- Window 4's block is its array: the gathered second weight's codes. -/
theorem blk4 (t : Fin cfg0.N) : iblk m 0 4 t = V m 0 main_v6 := by
  funext y
  blk_simp [iblk]
  congr 1
  blk_ext [idx4]

/-- Window 5's block is its array: the gathered second weight's scales. -/
theorem blk5 (t : Fin cfg0.N) : iblk m 0 5 t = V m 0 main_v9 := by
  funext y
  blk_simp [iblk]
  congr 1
  blk_ext [idx5]

/-- Window 6's block is its array: the incoming gradient's codes. -/
theorem blk6 (t : Fin cfg0.N) : iblk m 0 6 t = V m 0 main_v12 := by
  funext y
  blk_simp [iblk]
  congr 1
  blk_ext [idx6]

/-- Window 7's block is its array: the incoming gradient's scales. -/
theorem blk7 (t : Fin cfg0.N) : iblk m 0 7 t = V m 0 main_v13 := by
  funext y
  blk_simp [iblk]
  congr 1
  blk_ext [idx7]

/-- Result 1 after the run. -/
theorem arr8 : (dats m 0 0).arrAt 8 cfg0.N = fun y : S48128x768.Idx => ((inV m ⟨(y 0).val / 128, by have : (y 0).val < 48128 := (y 0).isLt; omega⟩).DX ⟨(y 0).val % 128, by omega⟩ (y 1) : EReal) := by
  refine (dats m 0 0).arrAt_eq_of_covers 8 _ (by decide +kernel) fun t hf y => ?_
  blk_simp
  rw [after0_8, blk0, blk1, blk2, blk3, blk4, blk5, blk6, blk7]
  have ey : y = ix2 (y 0 : Fin 48128) (y 1 : Fin 768) := by
    funext a; fin_cases a <;> rfl
  refine (congrArg _ ey).trans ?_
  refine (outR8 _ _ _ _ _ _ _ _ (y 0) (y 1)).trans ?_
  have h0 := congrFun (idx8 t) 0
  have h1 := congrFun (idx8 t) 1
  have app : ∀ {R R' : Fin 376} {r r' : Fin 128} {c c' : Fin 768}, R.val = R'.val → r.val = r'.val → c.val = c'.val →
      (inV m R).DX r c = (inV m R').DX r' c' := by
    intro R R' r r' c c' h1 h2 h3
    rw [Fin.ext h1, Fin.ext h2, Fin.ext h3]
  refine app ?_ ?_ ?_
  · show (y 0).val / 128 = (win0_8.index t 0 * 48128 + (y 0).val) / 128
    rw [h0]; show _ = (0 * 48128 + _) / 128; omega
  · show (y 0).val % 128 = (win0_8.index t 0 * 48128 + (y 0).val) % 128
    rw [h0]; show _ = (0 * 48128 + _) % 128; omega
  · show (y 1).val = win0_8.index t 1 * 768 + 1 * (y 1).val
    rw [h1]; show _ = 0 * 768 + _; omega

/-- Result 2 after the run. -/
theorem arr9 : (dats m 0 0).arrAt 9 cfg0.N = fun y : S48128x3072.Idx => ((inV m ⟨(y 0).val / 128, by have : (y 0).val < 48128 := (y 0).isLt; omega⟩).C ⟨(y 0).val % 128, by omega⟩ (y 1) : EReal) := by
  refine (dats m 0 0).arrAt_eq_of_covers 9 _ (by decide +kernel) fun t hf y => ?_
  blk_simp
  rw [after0_9, blk0, blk1, blk2, blk3, blk4, blk5, blk6, blk7]
  have ey : y = ix2 (y 0 : Fin 48128) (y 1 : Fin 3072) := by
    funext a; fin_cases a <;> rfl
  refine (congrArg _ ey).trans ?_
  refine (outR9 _ _ _ _ _ _ _ _ (y 0) (y 1)).trans ?_
  have h0 := congrFun (idx9 t) 0
  have h1 := congrFun (idx9 t) 1
  have app : ∀ {R R' : Fin 376} {r r' : Fin 128} {c c' : Fin 3072}, R.val = R'.val → r.val = r'.val → c.val = c'.val →
      (inV m R).C r c = (inV m R').C r' c' := by
    intro R R' r r' c c' h1 h2 h3
    rw [Fin.ext h1, Fin.ext h2, Fin.ext h3]
  refine app ?_ ?_ ?_
  · show (y 0).val / 128 = (win0_9.index t 0 * 48128 + (y 0).val) / 128
    rw [h0]; show _ = (0 * 48128 + _) / 128; omega
  · show (y 0).val % 128 = (win0_9.index t 0 * 48128 + (y 0).val) % 128
    rw [h0]; show _ = (0 * 48128 + _) % 128; omega
  · show (y 1).val = win0_9.index t 1 * 3072 + 1 * (y 1).val
    rw [h1]; show _ = 0 * 3072 + _; omega

/-- Result 3 after the run. -/
theorem arr10 : (dats m 0 0).arrAt 10 cfg0.N = fun y : S48128x24.Idx => ((inV m ⟨(y 0).val / 128, by have : (y 0).val < 48128 := (y 0).isLt; omega⟩).S ⟨(y 0).val % 128, by omega⟩ (y 1) : EReal) := by
  refine (dats m 0 0).arrAt_eq_of_covers 10 _ (by decide +kernel) fun t hf y => ?_
  blk_simp
  rw [after0_10, blk0, blk1, blk2, blk3, blk4, blk5, blk6, blk7]
  have ey : y = ix2 (y 0 : Fin 48128) (y 1 : Fin 24) := by
    funext a; fin_cases a <;> rfl
  refine (congrArg _ ey).trans ?_
  refine (outR10 _ _ _ _ _ _ _ _ (y 0) (y 1)).trans ?_
  have h0 := congrFun (idx10 t) 0
  have h1 := congrFun (idx10 t) 1
  have app : ∀ {R R' : Fin 376} {r r' : Fin 128} {c c' : Fin 24}, R.val = R'.val → r.val = r'.val → c.val = c'.val →
      (inV m R).S r c = (inV m R').S r' c' := by
    intro R R' r r' c c' h1 h2 h3
    rw [Fin.ext h1, Fin.ext h2, Fin.ext h3]
  refine app ?_ ?_ ?_
  · show (y 0).val / 128 = (win0_10.index t 0 * 48128 + (y 0).val) / 128
    rw [h0]; show _ = (0 * 48128 + _) / 128; omega
  · show (y 0).val % 128 = (win0_10.index t 0 * 48128 + (y 0).val) % 128
    rw [h0]; show _ = (0 * 48128 + _) % 128; omega
  · show (y 1).val = win0_10.index t 1 * 24 + 1 * (y 1).val
    rw [h1]; show _ = 0 * 24 + _; omega

end Cert.ReferenceIdeal.Gen.Run
-- ==== Proof.RefHost.lean ====
/- The reference's arrays at an index: its host operations gather, for row block `R`, the weights and scales of `R`'s expert. -/
module

public import proofs.«01_k».proof.Proof.Gen.ReferenceIdeal.Frame
public import proofs.«01_k».proof.Proof.Pre
public import Idealize.ShloMosaic.Lib.Pointwise
public import Idealize.ShloMosaic.Lib.StableHlo.ReadAt

@[expose] public section

set_option maxRecDepth 65536

noncomputable section

namespace Cert.ReferenceIdeal.Gen.Host

open Idealize.ShloMosaic Idealize.ShloMosaic.TcCoe Cert.ReferenceIdeal Cert.ReferenceIdeal.Gen Cert.Moe

variable {α : Type}

/-- A gather's start coordinate on an axis it indexes: the index word, which is in range. -/
theorem start_word {s si t : Shape} (d : GatherDims s si t) (j : t.Idx) (idx : IVec si 32) (a : Fin s.rank)
    (ha : a ∈ d.startIndexMap) (i : si.Idx) (hi : d.siIdx j ⟨d.startIndexMap.idxOf a, List.idxOf_lt_length_iff.2 ha⟩ = i)
    (b : Nat) (hb : (idx i).toNat = b) (hl : b ≤ s.size a - d.sliceSizes a) (hs : b < 2 ^ 31) : d.start j idx a = b := by
  unfold GatherDims.start
  rw [dif_pos ha, hi]
  have : (idx i).toInt.toNat = b := by
    rw [BitVec.toInt]
    omega
  omega

/-- A gather's start coordinate on an axis it does not index. -/
theorem start_none {s si t : Shape} (d : GatherDims s si t) (j : t.Idx) (idx : IVec si 32) (a : Fin s.rank)
    (ha : a ∉ d.startIndexMap) : d.start j idx a = 0 := by
  unfold GatherDims.start
  rw [dif_neg ha]

/-- `gather_S768x2880x128_S376x24x1_S768x376x24x128_03_1_n_n_1_2_7681128` at an index: the operand's entry at the column block the index word names. -/
theorem g2_at (x : S768x2880x128.Idx → α) (idx : IVec S376x24x1 32) (c : Fin 768) (R : Fin 376) (j : Fin 24) (k : Fin 128) (b : Nat) (hb : (idx (ix3 R j 0)).toNat = b) (hl : b < 2880) :
    Host.gather gather_S768x2880x128_S376x24x1_S768x376x24x128_03_1_n_n_1_2_7681128 x idx (ix4 c R j k) = x (ix3 c ⟨b, hl⟩ k) := by
  unfold Host.gather
  refine congrArg x (funext fun a => Fin.ext ?_)
  have hB : ∀ a, a ∉ gather_S768x2880x128_S376x24x1_S768x376x24x128_03_1_n_n_1_2_7681128.operandBatchingDims := fun a => List.not_mem_nil
  match a with
  | ⟨0, _⟩ =>
    refine (congrArg₂ (· + ·) (congrArg₂ (· + ·) (start_none gather_S768x2880x128_S376x24x1_S768x376x24x128_03_1_n_n_1_2_7681128 _ idx 0 (by decide))
      (GatherDims.batchCoord_eq_zero _ _ _ (hB _))) (?_ : _ = c.val)).trans (Nat.zero_add _)
    rfl
  | ⟨1, _⟩ =>
    have hK : (1 : Fin 3) ∉ gather_S768x2880x128_S376x24x1_S768x376x24x128_03_1_n_n_1_2_7681128.sKept := by decide
    refine (congrArg₂ (· + ·) (congrArg₂ (· + ·) (start_word gather_S768x2880x128_S376x24x1_S768x376x24x128_03_1_n_n_1_2_7681128 _ idx 1 (by decide) (ix3 R j 0) ?_ b hb ?_ (by omega))
      (GatherDims.batchCoord_eq_zero _ _ _ (hB _))) (GatherDims.offCoord_eq_zero _ _ _ hK)).trans (Nat.add_zero _)
    · funext b'
      refine Fin.ext ?_
      match b' with
      | ⟨0, _⟩ => rfl
      | ⟨1, _⟩ => rfl
      | ⟨2, _⟩ => rfl
    · show b ≤ 2880 - 1
      omega
  | ⟨2, _⟩ =>
    refine (congrArg₂ (· + ·) (congrArg₂ (· + ·) (start_none gather_S768x2880x128_S376x24x1_S768x376x24x128_03_1_n_n_1_2_7681128 _ idx 2 (by decide))
      (GatherDims.batchCoord_eq_zero _ _ _ (hB _))) (?_ : _ = k.val)).trans (Nat.zero_add _)
    rfl

/-- `gather_S2880x128x768_S376x24x1_S376x24x128x768_23_0_n_n_0_2_1128768` at an index: the operand's entry at the column block the index word names. -/
theorem g4_at (x : S2880x128x768.Idx → α) (idx : IVec S376x24x1 32) (R : Fin 376) (j : Fin 24) (k : Fin 128) (c : Fin 768) (b : Nat) (hb : (idx (ix3 R j 0)).toNat = b) (hl : b < 2880) :
    Host.gather gather_S2880x128x768_S376x24x1_S376x24x128x768_23_0_n_n_0_2_1128768 x idx (ix4 R j k c) = x (ix3 ⟨b, hl⟩ k c) := by
  unfold Host.gather
  refine congrArg x (funext fun a => Fin.ext ?_)
  have hB : ∀ a, a ∉ gather_S2880x128x768_S376x24x1_S376x24x128x768_23_0_n_n_0_2_1128768.operandBatchingDims := fun a => List.not_mem_nil
  match a with
  | ⟨0, _⟩ =>
    have hK : (0 : Fin 3) ∉ gather_S2880x128x768_S376x24x1_S376x24x128x768_23_0_n_n_0_2_1128768.sKept := by decide
    refine (congrArg₂ (· + ·) (congrArg₂ (· + ·) (start_word gather_S2880x128x768_S376x24x1_S376x24x128x768_23_0_n_n_0_2_1128768 _ idx 0 (by decide) (ix3 R j 0) ?_ b hb ?_ (by omega))
      (GatherDims.batchCoord_eq_zero _ _ _ (hB _))) (GatherDims.offCoord_eq_zero _ _ _ hK)).trans (Nat.add_zero _)
    · funext b'
      refine Fin.ext ?_
      match b' with
      | ⟨0, _⟩ => rfl
      | ⟨1, _⟩ => rfl
      | ⟨2, _⟩ => rfl
    · show b ≤ 2880 - 1
      omega
  | ⟨1, _⟩ =>
    refine (congrArg₂ (· + ·) (congrArg₂ (· + ·) (start_none gather_S2880x128x768_S376x24x1_S376x24x128x768_23_0_n_n_0_2_1128768 _ idx 1 (by decide))
      (GatherDims.batchCoord_eq_zero _ _ _ (hB _))) (?_ : _ = k.val)).trans (Nat.zero_add _)
    rfl
  | ⟨2, _⟩ =>
    refine (congrArg₂ (· + ·) (congrArg₂ (· + ·) (start_none gather_S2880x128x768_S376x24x1_S376x24x128x768_23_0_n_n_0_2_1128768 _ idx 2 (by decide))
      (GatherDims.batchCoord_eq_zero _ _ _ (hB _))) (?_ : _ = c.val)).trans (Nat.zero_add _)
    rfl

/-- `gather_S6x2880_S376x24x1_S6x376x24_0_1_n_n_1_2_61` at an index: the operand's entry at the column block the index word names. -/
theorem g3_at (x : S6x2880.Idx → α) (idx : IVec S376x24x1 32) (k : Fin 6) (R : Fin 376) (j : Fin 24) (b : Nat) (hb : (idx (ix3 R j 0)).toNat = b) (hl : b < 2880) :
    Host.gather gather_S6x2880_S376x24x1_S6x376x24_0_1_n_n_1_2_61 x idx (ix3 k R j) = x (ix2 k ⟨b, hl⟩) := by
  unfold Host.gather
  refine congrArg x (funext fun a => Fin.ext ?_)
  have hB : ∀ a, a ∉ gather_S6x2880_S376x24x1_S6x376x24_0_1_n_n_1_2_61.operandBatchingDims := fun a => List.not_mem_nil
  match a with
  | ⟨0, _⟩ =>
    refine (congrArg₂ (· + ·) (congrArg₂ (· + ·) (start_none gather_S6x2880_S376x24x1_S6x376x24_0_1_n_n_1_2_61 _ idx 0 (by decide))
      (GatherDims.batchCoord_eq_zero _ _ _ (hB _))) (?_ : _ = k.val)).trans (Nat.zero_add _)
    rfl
  | ⟨1, _⟩ =>
    have hK : (1 : Fin 2) ∉ gather_S6x2880_S376x24x1_S6x376x24_0_1_n_n_1_2_61.sKept := by decide
    refine (congrArg₂ (· + ·) (congrArg₂ (· + ·) (start_word gather_S6x2880_S376x24x1_S6x376x24_0_1_n_n_1_2_61 _ idx 1 (by decide) (ix3 R j 0) ?_ b hb ?_ (by omega))
      (GatherDims.batchCoord_eq_zero _ _ _ (hB _))) (GatherDims.offCoord_eq_zero _ _ _ hK)).trans (Nat.add_zero _)
    · funext b'
      refine Fin.ext ?_
      match b' with
      | ⟨0, _⟩ => rfl
      | ⟨1, _⟩ => rfl
      | ⟨2, _⟩ => rfl
    · show b ≤ 2880 - 1
      omega

/-- `gather_S2880x6_S376x24x1_S376x24x6_2_0_n_n_0_2_16` at an index: the operand's entry at the column block the index word names. -/
theorem g5_at (x : S2880x6.Idx → α) (idx : IVec S376x24x1 32) (R : Fin 376) (j : Fin 24) (k : Fin 6) (b : Nat) (hb : (idx (ix3 R j 0)).toNat = b) (hl : b < 2880) :
    Host.gather gather_S2880x6_S376x24x1_S376x24x6_2_0_n_n_0_2_16 x idx (ix3 R j k) = x (ix2 ⟨b, hl⟩ k) := by
  unfold Host.gather
  refine congrArg x (funext fun a => Fin.ext ?_)
  have hB : ∀ a, a ∉ gather_S2880x6_S376x24x1_S376x24x6_2_0_n_n_0_2_16.operandBatchingDims := fun a => List.not_mem_nil
  match a with
  | ⟨0, _⟩ =>
    have hK : (0 : Fin 2) ∉ gather_S2880x6_S376x24x1_S376x24x6_2_0_n_n_0_2_16.sKept := by decide
    refine (congrArg₂ (· + ·) (congrArg₂ (· + ·) (start_word gather_S2880x6_S376x24x1_S376x24x6_2_0_n_n_0_2_16 _ idx 0 (by decide) (ix3 R j 0) ?_ b hb ?_ (by omega))
      (GatherDims.batchCoord_eq_zero _ _ _ (hB _))) (GatherDims.offCoord_eq_zero _ _ _ hK)).trans (Nat.add_zero _)
    · funext b'
      refine Fin.ext ?_
      match b' with
      | ⟨0, _⟩ => rfl
      | ⟨1, _⟩ => rfl
      | ⟨2, _⟩ => rfl
    · show b ≤ 2880 - 1
      omega
  | ⟨1, _⟩ =>
    refine (congrArg₂ (· + ·) (congrArg₂ (· + ·) (start_none gather_S2880x6_S376x24x1_S376x24x6_2_0_n_n_0_2_16 _ idx 1 (by decide))
      (GatherDims.batchCoord_eq_zero _ _ _ (hB _))) (?_ : _ = k.val)).trans (Nat.zero_add _)
    rfl

variable (m : (ℓ : Loc nD τ sig) → Buf (Elt Ideal) ℓ)

/-- The column indices as launched. -/
abbrev ci : S376x24.Idx → BitVec 32 := m (((0 : Dev nD) : Thread nD τ).loc main_arg6)

/-- Row block `R`'s expert. -/
def expert (R : Fin 376) : Nat := (ci m (ix2 R 0)).toNat / 24

/-- There are 120 experts. -/
theorem expert_lt (h : OneExpert (ci m)) (R : Fin 376) : expert m R < 120 := by
  have := (h R).1
  unfold expert
  omega

/-- Row block `R`'s column indices are its expert's 24 column blocks in order. -/
theorem ci_at (h : OneExpert (ci m)) (R : Fin 376) (j : Fin 24) : (ci m (ix2 R j)).toNat = expert m R * 24 + j.val := by
  obtain ⟨h1, h2, h3⟩ := h R
  have hj := j.isLt
  have e : (BitVec.ofNat 32 j.val).toNat = j.val := by
    rw [BitVec.toNat_ofNat]
    omega
  rw [h3 j, BitVec.toNat_add, e]
  unfold expert
  omega

/-- The index words a gather reads. -/
theorem bc_at (h : OneExpert (ci m)) (R : Fin 376) (j : Fin 24) :
    (broadcastInDim S376x24x1 ![0, 1] bcast_S376x24_S376x24x1_0_1 (ci m) (ix3 R j 0) : BitVec 32).toNat = expert m R * 24 + j.val := by
  have e : broadcastInDim S376x24x1 ![0, 1] bcast_S376x24_S376x24x1_0_1 (ci m) (ix3 R j 0) = ci m (ix2 R j) := by
    pointwise
  exact (congrArg BitVec.toNat e).trans (ci_at m h R j)

/-- The activations' codes by row block. -/
theorem v10_at (R : Fin 376) (r : Fin 128) (c : Fin 768) : (V m 0 main_v10 : S376x128x768.Idx → EReal) (ix3 R r c)
    = (m (((0 : Dev nD) : Thread nD τ).loc main_arg0) : S48128x768.Idx → EReal) (ix2 ⟨R.val * 128 + r.val, by omega⟩ c) := by
  unfold V
  unfold hostOps0 hostOps0_1 hostOps0_2 hostOps0_3 hostOps0_4 hostOps0_5 hostOps0_6 hostOps0_7 hostOps0_8
  after_reads_at

/-- The activations' scales by row block. -/
theorem v11_at (R : Fin 376) (r : Fin 128) (c : Fin 6) : (V m 0 main_v11 : S376x128x6.Idx → EReal) (ix3 R r c)
    = (m (((0 : Dev nD) : Thread nD τ).loc main_arg1) : S48128x6.Idx → EReal) (ix2 ⟨R.val * 128 + r.val, by omega⟩ c) := by
  unfold V
  unfold hostOps0 hostOps0_1 hostOps0_2 hostOps0_3 hostOps0_4 hostOps0_5 hostOps0_6 hostOps0_7 hostOps0_8
  after_reads_at

/-- The incoming gradient's codes by row block. -/
theorem v12_at (R : Fin 376) (r : Fin 128) (c : Fin 768) : (V m 0 main_v12 : S376x128x768.Idx → EReal) (ix3 R r c)
    = (m (((0 : Dev nD) : Thread nD τ).loc main_arg7) : S48128x768.Idx → EReal) (ix2 ⟨R.val * 128 + r.val, by omega⟩ c) := by
  unfold V
  unfold hostOps0 hostOps0_1 hostOps0_2 hostOps0_3 hostOps0_4 hostOps0_5 hostOps0_6 hostOps0_7 hostOps0_8
  after_reads_at

/-- The incoming gradient's scales by row block. -/
theorem v13_at (R : Fin 376) (r : Fin 128) (c : Fin 6) : (V m 0 main_v13 : S376x128x6.Idx → EReal) (ix3 R r c)
    = (m (((0 : Dev nD) : Thread nD τ).loc main_arg8) : S48128x6.Idx → EReal) (ix2 ⟨R.val * 128 + r.val, by omega⟩ c) := by
  unfold V
  unfold hostOps0 hostOps0_1 hostOps0_2 hostOps0_3 hostOps0_4 hostOps0_5 hostOps0_6 hostOps0_7 hostOps0_8
  after_reads_at

/-- The gathered codes of the first weight: row block `R` has its expert's columns. -/
theorem v3_at (h : OneExpert (ci m)) (R : Fin 376) (c : Fin 768) (f : Fin 3072) :
    (V m 0 main_v3 : S376x768x3072.Idx → EReal) (ix3 R c f) = (m (((0 : Dev nD) : Thread nD τ).loc main_arg2) : S768x368640.Idx → EReal)
      (ix2 c ⟨expert m R * 3072 + f.val, by have := expert_lt m h R; omega⟩) := by
  unfold V
  unfold hostOps0 hostOps0_1 hostOps0_2 hostOps0_3 hostOps0_4 hostOps0_5 hostOps0_6 hostOps0_7 hostOps0_8
  after_reads_at
  have hR := expert_lt m h R
  refine (g2_at _ _ c R ⟨f.val / 128, by omega⟩ ⟨f.val % 128, by omega⟩ _ (bc_at m h R ⟨f.val / 128, by omega⟩) (by show expert m R * 24 + f.val / 128 < 2880; omega)).trans ?_
  refine congrArg (fun z => (m (((0 : Dev nD) : Thread nD τ).loc main_arg2) : S768x368640.Idx → EReal) (ix2 c z)) (Fin.ext ?_)
  show (expert m R * 24 + f.val / 128) * 128 + f.val % 128 = expert m R * 3072 + f.val
  omega

/-- The gathered codes of the second weight: row block `R` has its expert's rows. -/
theorem v6_at (h : OneExpert (ci m)) (R : Fin 376) (f : Fin 3072) (c : Fin 768) :
    (V m 0 main_v6 : S376x3072x768.Idx → EReal) (ix3 R f c) = (m (((0 : Dev nD) : Thread nD τ).loc main_arg4) : S368640x768.Idx → EReal)
      (ix2 ⟨expert m R * 3072 + f.val, by have := expert_lt m h R; omega⟩ c) := by
  unfold V
  unfold hostOps0 hostOps0_1 hostOps0_2 hostOps0_3 hostOps0_4 hostOps0_5 hostOps0_6 hostOps0_7 hostOps0_8
  after_reads_at
  have hR := expert_lt m h R
  refine (g4_at _ _ R ⟨f.val / 128, by omega⟩ ⟨f.val % 128, by omega⟩ c _ (bc_at m h R ⟨f.val / 128, by omega⟩) (by show expert m R * 24 + f.val / 128 < 2880; omega)).trans ?_
  refine congrArg (fun z => (m (((0 : Dev nD) : Thread nD τ).loc main_arg4) : S368640x768.Idx → EReal) (ix2 z c)) (Fin.ext ?_)
  show (expert m R * 24 + f.val / 128) * 128 + f.val % 128 = expert m R * 3072 + f.val
  omega

/-- The gathered scales of the first weight. -/
theorem v8_at (h : OneExpert (ci m)) (R : Fin 376) (k : Fin 6) (j : Fin 24) :
    (V m 0 main_v8 : S376x6x24.Idx → EReal) (ix3 R k j) = (m (((0 : Dev nD) : Thread nD τ).loc main_arg3) : S6x2880.Idx → EReal)
      (ix2 k ⟨expert m R * 24 + j.val, by have := expert_lt m h R; omega⟩) := by
  unfold V
  unfold hostOps0 hostOps0_1 hostOps0_2 hostOps0_3 hostOps0_4 hostOps0_5 hostOps0_6 hostOps0_7 hostOps0_8
  after_reads_at
  have hR := expert_lt m h R
  exact g3_at _ _ k R j _ (bc_at m h R j) (by omega)

/-- The gathered scales of the second weight. -/
theorem v9_at (h : OneExpert (ci m)) (R : Fin 376) (j : Fin 24) (k : Fin 6) :
    (V m 0 main_v9 : S376x24x6.Idx → EReal) (ix3 R j k) = (m (((0 : Dev nD) : Thread nD τ).loc main_arg5) : S2880x6.Idx → EReal)
      (ix2 ⟨expert m R * 24 + j.val, by have := expert_lt m h R; omega⟩ k) := by
  unfold V
  unfold hostOps0 hostOps0_1 hostOps0_2 hostOps0_3 hostOps0_4 hostOps0_5 hostOps0_6 hostOps0_7 hostOps0_8
  after_reads_at
  have hR := expert_lt m h R
  exact g5_at _ _ R j k _ (bc_at m h R j) (by omega)

end Cert.ReferenceIdeal.Gen.Host
-- ==== Proof.Alg.lean ====
/- The two programs' runs with their results named, and their results equal. -/
module

public import proofs.«01_k».proof.Defs
public import proofs.«01_k».proof.Proof.KArr
public import proofs.«01_k».proof.Proof.RefRun
public import proofs.«01_k».proof.Proof.RefHost

@[expose] public section

set_option maxRecDepth 65536
set_option maxHeartbeats 2000000

noncomputable section

namespace Cert.Moe

open Idealize.ShloMosaic Idealize.ShloMosaic.TcCoe Idealize.SL.Sem

section Kernel

open Cert.KernelIdeal Cert.KernelIdeal.Gen Cert.KernelIdeal.Gen.Tbl

variable (m : (ℓ : Loc nD τ sig) → Buf (Elt Ideal) ℓ) (ρ : Dev nD → PrngReg)

/-- The kernel's run: its three result arrays are what the grid leaves, its arguments as launched. -/
theorem kernel_run (hO : Ok m) (hH : Hyps m hO) : θ_run defs (onTc (τ := τ) (main (F := Ideal))) ⟨m, fun _ => 0, ρ⟩ fun r => ∀ c : Dev nD,
      r.2.mem ((c : Thread nD τ).loc main_v7_0) = (dats m hO hH 0 c).arrAt 8 (cfgM m hO).N
      ∧ r.2.mem ((c : Thread nD τ).loc main_v7_1) = (dats m hO hH 0 c).arrAt 9 (cfgM m hO).N
      ∧ r.2.mem ((c : Thread nD τ).loc main_v7_2) = (dats m hO hH 0 c).arrAt 10 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1 8, (h c).1 9, (h c).1 10,
      ((h c).1 2).trans (((dats m hO hH 0 c).arrAt_in 2 rfl _).trans ((A_eq m hO hH c 2).trans (V_main_arg0 m c))),
      ((h c).1 3).trans (((dats m hO hH 0 c).arrAt_in 3 rfl _).trans ((A_eq m hO hH c 3).trans (V_main_arg1 m c))),
      ((h c).1 6).trans (((dats m hO hH 0 c).arrAt_in 6 rfl _).trans ((A_eq m hO hH c 6).trans (V_main_arg2 m c))),
      ((h c).2 main_arg3 (by decide : main_arg3 ∈ Pipeline.restRefs sig spec0)).trans (V_main_arg3 m c),
      ((h c).1 7).trans (((dats m hO hH 0 c).arrAt_in 7 rfl _).trans ((A_eq m hO hH c 7).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).1 4).trans (((dats m hO hH 0 c).arrAt_in 4 rfl _).trans ((A_eq m hO hH c 4).trans (V_main_arg7 m c))),
      ((h c).1 5).trans (((dats m hO hH 0 c).arrAt_in 5 rfl _).trans ((A_eq m hO hH c 5).trans (V_main_arg8 m c)))⟩) (run_main m ρ hO hH)

end Kernel

section Reference

open Cert.ReferenceIdeal Cert.ReferenceIdeal.Gen Cert.ReferenceIdeal.Gen.Host

variable (m : (ℓ : Loc nD τ sig) → Buf (Elt Ideal) ℓ)

/-- Row block `R`'s operands in the reference are its 128 rows and its expert's blocks of the weights. -/
theorem inV_eq (h : OneExpert (ci m)) (R : Fin 376) : Run.inV m R =
    inA (m (((0 : Dev nD) : Thread nD τ).loc main_arg0)) (m (((0 : Dev nD) : Thread nD τ).loc main_arg1)) (m (((0 : Dev nD) : Thread nD τ).loc main_arg2))
      (m (((0 : Dev nD) : Thread nD τ).loc main_arg3)) (m (((0 : Dev nD) : Thread nD τ).loc main_arg4)) (m (((0 : Dev nD) : Thread nD τ).loc main_arg5))
      (m (((0 : Dev nD) : Thread nD τ).loc main_arg7)) (m (((0 : Dev nD) : Thread nD τ).loc main_arg8)) (expert m R) (expert_lt m h R) R := by
  apply In.ext
  · funext r c; exact v10_at m R r c
  · funext r c; exact v11_at m R r c
  · funext c f; exact v3_at m h R c f
  · funext k j; exact v8_at m h R k j
  · funext f c; exact v6_at m h R f c
  · funext j k; exact v9_at m h R j k
  · funext r c; exact v12_at m R r c
  · funext r c; exact v13_at m R r c

end Reference

/-- Equal arguments give equal row blocks. -/
theorem inA_congr {a0 b0 : (⟨2, ![48128, 768]⟩ : Shape).Idx → EReal} {a1 b1 : (⟨2, ![48128, 6]⟩ : Shape).Idx → EReal}
    {a2 b2 : (⟨2, ![768, 368640]⟩ : Shape).Idx → EReal} {a3 b3 : (⟨2, ![6, 2880]⟩ : Shape).Idx → EReal}
    {a4 b4 : (⟨2, ![368640, 768]⟩ : Shape).Idx → EReal} {a5 b5 : (⟨2, ![2880, 6]⟩ : Shape).Idx → EReal}
    {a7 b7 : (⟨2, ![48128, 768]⟩ : Shape).Idx → EReal} {a8 b8 : (⟨2, ![48128, 6]⟩ : Shape).Idx → EReal} {e e' : Nat} {he : e < 120} {he' : e' < 120}
    {R : Fin 376} (h0 : a0 = b0) (h1 : a1 = b1) (h2 : a2 = b2) (h3 : a3 = b3) (h4 : a4 = b4) (h5 : a5 = b5) (h7 : a7 = b7) (h8 : a8 = b8)
    (h : e = e') : inA a0 a1 a2 a3 a4 a5 a7 a8 e he R = inA b0 b1 b2 b3 b4 b5 b7 b8 e' he' R := by
  subst h0 h1 h2 h3 h4 h5 h7 h8 h
  rfl

open Cert.KernelIdeal.Gen (Ok Hyps) in
/-- From memories that agree on the arguments, the kernel's three results are the reference's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : OneExpert (Cert.KernelIdeal.Gen.Tbl.ci m)) (h' : OneExpert (Cert.ReferenceIdeal.Gen.Host.ci m'))
    (e0 : m' (((0 : Dev Cert.ReferenceIdeal.nD) : Thread Cert.ReferenceIdeal.nD Cert.ReferenceIdeal.τ).loc Cert.ReferenceIdeal.main_arg0) = m (((0 : Dev Cert.KernelIdeal.nD) : Thread Cert.KernelIdeal.nD Cert.KernelIdeal.τ).loc Cert.KernelIdeal.main_arg0))
    (e1 : m' (((0 : Dev Cert.ReferenceIdeal.nD) : Thread Cert.ReferenceIdeal.nD Cert.ReferenceIdeal.τ).loc Cert.ReferenceIdeal.main_arg1) = m (((0 : Dev Cert.KernelIdeal.nD) : Thread Cert.KernelIdeal.nD Cert.KernelIdeal.τ).loc Cert.KernelIdeal.main_arg1))
    (e2 : m' (((0 : Dev Cert.ReferenceIdeal.nD) : Thread Cert.ReferenceIdeal.nD Cert.ReferenceIdeal.τ).loc Cert.ReferenceIdeal.main_arg2) = m (((0 : Dev Cert.KernelIdeal.nD) : Thread Cert.KernelIdeal.nD Cert.KernelIdeal.τ).loc Cert.KernelIdeal.main_arg2))
    (e3 : m' (((0 : Dev Cert.ReferenceIdeal.nD) : Thread Cert.ReferenceIdeal.nD Cert.ReferenceIdeal.τ).loc Cert.ReferenceIdeal.main_arg3) = m (((0 : Dev Cert.KernelIdeal.nD) : Thread Cert.KernelIdeal.nD Cert.KernelIdeal.τ).loc Cert.KernelIdeal.main_arg3))
    (e4 : m' (((0 : Dev Cert.ReferenceIdeal.nD) : Thread Cert.ReferenceIdeal.nD Cert.ReferenceIdeal.τ).loc Cert.ReferenceIdeal.main_arg4) = m (((0 : Dev Cert.KernelIdeal.nD) : Thread Cert.KernelIdeal.nD Cert.KernelIdeal.τ).loc Cert.KernelIdeal.main_arg4))
    (e5 : m' (((0 : Dev Cert.ReferenceIdeal.nD) : Thread Cert.ReferenceIdeal.nD Cert.ReferenceIdeal.τ).loc Cert.ReferenceIdeal.main_arg5) = m (((0 : Dev Cert.KernelIdeal.nD) : Thread Cert.KernelIdeal.nD Cert.KernelIdeal.τ).loc Cert.KernelIdeal.main_arg5))
    (e6 : m' (((0 : Dev Cert.ReferenceIdeal.nD) : Thread Cert.ReferenceIdeal.nD Cert.ReferenceIdeal.τ).loc Cert.ReferenceIdeal.main_arg6) = m (((0 : Dev Cert.KernelIdeal.nD) : Thread Cert.KernelIdeal.nD Cert.KernelIdeal.τ).loc Cert.KernelIdeal.main_arg6))
    (e7 : m' (((0 : Dev Cert.ReferenceIdeal.nD) : Thread Cert.ReferenceIdeal.nD Cert.ReferenceIdeal.τ).loc Cert.ReferenceIdeal.main_arg7) = m (((0 : Dev Cert.KernelIdeal.nD) : Thread Cert.KernelIdeal.nD Cert.KernelIdeal.τ).loc Cert.KernelIdeal.main_arg7))
    (e8 : m' (((0 : Dev Cert.ReferenceIdeal.nD) : Thread Cert.ReferenceIdeal.nD Cert.ReferenceIdeal.τ).loc Cert.ReferenceIdeal.main_arg8) = m (((0 : Dev Cert.KernelIdeal.nD) : Thread Cert.KernelIdeal.nD Cert.KernelIdeal.τ).loc Cert.KernelIdeal.main_arg8))
    (R : Fin 376) : Cert.ReferenceIdeal.Gen.Run.inV m' R = Cert.KernelIdeal.Gen.Arr.inM m h R :=
  (inV_eq m' h' R).trans (inA_congr e0 e1 e2 e3 e4 e5 e7 e8 (congrArg (fun a : (⟨2, ![376, 24]⟩ : Shape).Idx → BitVec 32 => (a (ix2 R 0)).toNat / 24) e6))

/-- THE VALUE CLAIM: at the ideal instance the kernel and the reference end with equal input gradients, codes and scales. -/
theorem algebraic : Cert.algebraic_KernelIdeal_ReferenceIdeal (hKernelIdeal := Cert.KernelIdeal.Gen.facts)
    (hReferenceIdeal := Cert.ReferenceIdeal.Gen.facts) (hPre_one_expert_per_row_block := Cert.Pre_one_expert_per_row_block.Gen.facts) := by
  intro m g m' g' hp hargs
  obtain ⟨e0, e1, e2, e3, e4, e5, e6, e7, e8⟩ := hargs 0
  have h : OneExpert (Cert.KernelIdeal.Gen.Tbl.ci m) := oneExpert_of_pre _ _ _ _ _ _ _ _ _ (hp 0)
  have h' : OneExpert (Cert.ReferenceIdeal.Gen.Host.ci m') := by
    have e : Cert.ReferenceIdeal.Gen.Host.ci m' = Cert.KernelIdeal.Gen.Tbl.ci m := e6
    rw [e]; exact h
  have hO := Cert.KernelIdeal.Gen.Tbl.ok_of_expert m h
  have hH := Cert.KernelIdeal.Gen.Tbl.hyps_of_expert m h hO
  have hR : ∀ R, Cert.ReferenceIdeal.Gen.Run.inV m' R = Cert.KernelIdeal.Gen.Arr.inM m h R :=
    results_eq m m' h h' e0 e1 e2 e3 e4 e5 e6 e7 e8
  have q8 : (Cert.ReferenceIdeal.Gen.dats m' 0 0).arrAt 8 Cert.ReferenceIdeal.cfg0.N = (Cert.KernelIdeal.Gen.dats m hO hH 0 0).arrAt 8 (Cert.KernelIdeal.Gen.cfgM m hO).N := by
    rw [Cert.KernelIdeal.Gen.Arr.arr8 m h hO hH, Cert.ReferenceIdeal.Gen.Run.arr8 m']
    funext y
    exact congrFun (congrFun (congrArg In.DX (hR _)) _) _
  have q9 : (Cert.ReferenceIdeal.Gen.dats m' 0 0).arrAt 9 Cert.ReferenceIdeal.cfg0.N = (Cert.KernelIdeal.Gen.dats m hO hH 0 0).arrAt 9 (Cert.KernelIdeal.Gen.cfgM m hO).N := by
    rw [Cert.KernelIdeal.Gen.Arr.arr9 m h hO hH, Cert.ReferenceIdeal.Gen.Run.arr9 m']
    funext y
    exact congrFun (congrFun (congrArg In.C (hR _)) _) _
  have q10 : (Cert.ReferenceIdeal.Gen.dats m' 0 0).arrAt 10 Cert.ReferenceIdeal.cfg0.N = (Cert.KernelIdeal.Gen.dats m hO hH 0 0).arrAt 10 (Cert.KernelIdeal.Gen.cfgM m hO).N := by
    rw [Cert.KernelIdeal.Gen.Arr.arr10 m h hO hH, Cert.ReferenceIdeal.Gen.Run.arr10 m']
    funext y
    exact congrFun (congrFun (congrArg In.S (hR _)) _) _
  refine ⟨fun c => (Cert.KernelIdeal.Gen.dats m hO hH 0 c).arrAt 8 (Cert.KernelIdeal.Gen.cfgM m hO).N,
    fun c => (Cert.KernelIdeal.Gen.dats m hO hH 0 c).arrAt 9 (Cert.KernelIdeal.Gen.cfgM m hO).N,
    fun c => (Cert.KernelIdeal.Gen.dats m hO hH 0 c).arrAt 10 (Cert.KernelIdeal.Gen.cfgM m hO).N, kernel_run m g hO hH, ?_⟩
  refine (θ_run Cert.ReferenceIdeal.defs _ _).mono (fun r hr c => ?_) (Cert.ReferenceIdeal.Gen.Run.run_blocks m' g')
  obtain rfl : c = 0 := Subsingleton.elim _ _
  exact ⟨(hr 0).1.trans q8, (hr 0).2.1.trans q9, (hr 0).2.2.1.trans q10, (hr 0).2.2.2⟩

end Cert.Moe
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.Pre_one_expert_per_row_block
public import proofs.«01_k».proof.Proof.Pre
public import proofs.«01_k».proof.Proof.TblKernel
public import proofs.«01_k».proof.Proof.TblKernelIdeal
public import proofs.«01_k».proof.Proof.Alg
public import Idealize.ShloMosaic.Adequacy
public import Idealize.ShloMosaic.Init

@[expose] public section

noncomputable section

namespace Cert.Proof

open Idealize.ShloMosaic Idealize.SL.Sem Cert.Moe

/-- The kernel terminates without fault, keeps its arguments, and leaves every semaphore at zero: the precondition bounds
the prefetched expert numbers, so every window and every scale it reads lies inside its array. -/
theorem frame_kernel : Cert.quiescent_Kernel (hKernel := Cert.Kernel.Gen.facts)
    (hPre_one_expert_per_row_block := Cert.Pre_one_expert_per_row_block.Gen.facts) := fun m ρ h =>
  have hE : OneExpert (Cert.Kernel.Gen.Tbl.ci m) := oneExpert_of_pre _ _ _ _ _ _ _ _ _ (h 0)
  Cert.Kernel.Gen.frame m ρ (Cert.Kernel.Gen.Tbl.ok_of_expert m hE) (Cert.Kernel.Gen.Tbl.hyps_of_expert m hE _)

/-- The same of the kernel over the extended reals. -/
theorem frame_kernelIdeal : Cert.quiescent_KernelIdeal (hKernelIdeal := Cert.KernelIdeal.Gen.facts)
    (hPre_one_expert_per_row_block := Cert.Pre_one_expert_per_row_block.Gen.facts) := fun m ρ h =>
  have hE : OneExpert (Cert.KernelIdeal.Gen.Tbl.ci m) := oneExpert_of_pre _ _ _ _ _ _ _ _ _ (h 0)
  Cert.KernelIdeal.Gen.frame m ρ (Cert.KernelIdeal.Gen.Tbl.ok_of_expert m hE) (Cert.KernelIdeal.Gen.Tbl.hyps_of_expert m hE _)

/-- The whole claim. -/
theorem claim : Cert.Claim := ⟨Cert.Kernel.Gen.facts, Cert.KernelIdeal.Gen.facts, Cert.ReferenceIdeal.Gen.facts,
  Cert.Pre_one_expert_per_row_block.Gen.facts, frame_kernel, frame_kernelIdeal, fun m ρ _ => Cert.ReferenceIdeal.Gen.frame m ρ,
  fun m ρ _ => Cert.ReferenceIdeal.Gen.frame m ρ, trivial, Cert.Moe.algebraic⟩

end Cert.Proof

end
